-- ==== Defs.lean ====
def Pre_VersionIdeal [hPre_no_tie : Cert.Pre_no_tie.Facts] (m : (ℓ : Loc Cert.VersionIdeal.nD Cert.VersionIdeal.τ Cert.VersionIdeal.sig) → Buf (Elt Ideal) ℓ) : Prop :=
  ∀ c : Dev Cert.VersionIdeal.nD,
    (Cert.Pre_no_tie.fn (F := Ideal) (m ((c.tc : Thread Cert.VersionIdeal.nD Cert.VersionIdeal.τ).loc Cert.VersionIdeal.main_arg0)) (m ((c.tc : Thread Cert.VersionIdeal.nD Cert.VersionIdeal.τ).loc Cert.VersionIdeal.main_arg1))) = (fun _ => 1#1)

def Pre_ReferenceIdeal [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_none (m : (ℓ : Loc Cert.ReferenceIdeal.nD Cert.ReferenceIdeal.τ Cert.ReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def quiescent_VersionIdeal [hVersionIdeal : Cert.VersionIdeal.Facts] [hPre_no_tie : Cert.Pre_no_tie.Facts] : Prop :=
  ∀ (m : (ℓ : Loc Cert.VersionIdeal.nD Cert.VersionIdeal.τ Cert.VersionIdeal.sig) → Buf (Elt Ideal) ℓ) (g : Dev Cert.VersionIdeal.nD → PrngReg), Pre_VersionIdeal m →
    θ_run (Cert.VersionIdeal.defs (F := Ideal)) (onTc (τ := Cert.VersionIdeal.τ) (Cert.VersionIdeal.main (F := Ideal))) ⟨m, fun _ => 0, g⟩ (fun r => (∀ c : Dev Cert.VersionIdeal.nD,
      r.2.mem ((c.tc : Thread Cert.VersionIdeal.nD Cert.VersionIdeal.τ).loc Cert.VersionIdeal.main_arg0) = m ((c.tc : Thread Cert.VersionIdeal.nD Cert.VersionIdeal.τ).loc Cert.VersionIdeal.main_arg0)
      ∧ r.2.mem ((c.tc : Thread Cert.VersionIdeal.nD Cert.VersionIdeal.τ).loc Cert.VersionIdeal.main_arg1) = m ((c.tc : Thread Cert.VersionIdeal.nD Cert.VersionIdeal.τ).loc Cert.VersionIdeal.main_arg1))
      ∧ r.2.sem = fun _ => 0)

def quiescent_ReferenceIdeal [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_none [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_none m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def algebraic_VersionIdeal_ReferenceIdeal [hVersionIdeal : Cert.VersionIdeal.Facts] [hReferenceIdeal : Cert.ReferenceIdeal.Facts] [hPre_no_tie : Cert.Pre_no_tie.Facts] : Prop :=
  ∀ (m : (ℓ : Loc Cert.VersionIdeal.nD Cert.VersionIdeal.τ Cert.VersionIdeal.sig) → Buf (Elt Ideal) ℓ) (g : Dev Cert.VersionIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_VersionIdeal m →
    (∀ c : Dev Cert.VersionIdeal.nD,
      m' ((c.tc : Thread Cert.ReferenceIdeal.nD Cert.ReferenceIdeal.τ).loc Cert.ReferenceIdeal.main_arg0) = m ((c.tc : Thread Cert.VersionIdeal.nD Cert.VersionIdeal.τ).loc Cert.VersionIdeal.main_arg0)
      ∧ m' ((c.tc : Thread Cert.ReferenceIdeal.nD Cert.ReferenceIdeal.τ).loc Cert.ReferenceIdeal.main_arg1) = m ((c.tc : Thread Cert.VersionIdeal.nD Cert.VersionIdeal.τ).loc Cert.VersionIdeal.main_arg1)) →
    ∃ (v0 : (c : Dev Cert.VersionIdeal.nD) → Buf (Elt Ideal) ((c.tc : Thread Cert.VersionIdeal.nD Cert.VersionIdeal.τ).loc Cert.VersionIdeal.main_v8)),
      θ_run (Cert.VersionIdeal.defs (F := Ideal)) (onTc (τ := Cert.VersionIdeal.τ) (Cert.VersionIdeal.main (F := Ideal))) ⟨m, fun _ => 0, g⟩ (fun r => ∀ c : Dev Cert.VersionIdeal.nD,
          r.2.mem ((c.tc : Thread Cert.VersionIdeal.nD Cert.VersionIdeal.τ).loc Cert.VersionIdeal.main_v8) = v0 c
          ∧ r.2.mem ((c.tc : Thread Cert.VersionIdeal.nD Cert.VersionIdeal.τ).loc Cert.VersionIdeal.main_arg0) = m ((c.tc : Thread Cert.VersionIdeal.nD Cert.VersionIdeal.τ).loc Cert.VersionIdeal.main_arg0)
          ∧ r.2.mem ((c.tc : Thread Cert.VersionIdeal.nD Cert.VersionIdeal.τ).loc Cert.VersionIdeal.main_arg1) = m ((c.tc : Thread Cert.VersionIdeal.nD Cert.VersionIdeal.τ).loc Cert.VersionIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hVersionIdeal : Cert.VersionIdeal.Facts) (hReferenceIdeal : Cert.ReferenceIdeal.Facts) (hKernel : Cert.Kernel.Facts) (hKernelIdeal : Cert.KernelIdeal.Facts) (hPre_no_tie : Cert.Pre_no_tie.Facts),
    quiescent_VersionIdeal (hVersionIdeal := hVersionIdeal) (hPre_no_tie := hPre_no_tie)
    ∧ quiescent_ReferenceIdeal (hReferenceIdeal := hReferenceIdeal) (hPre_no_tie := hPre_no_tie)
    ∧ quiescent_ReferenceIdeal_pre_none (hReferenceIdeal := hReferenceIdeal)
    ∧ quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ algebraic_VersionIdeal_ReferenceIdeal (hVersionIdeal := hVersionIdeal) (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S8x2048x3 : Shape := ⟨3, ![8, 2048, 3]⟩
abbrev S8x128x2048 : Shape := ⟨3, ![8, 128, 2048]⟩
abbrev S8x2048x128 : Shape := ⟨3, ![8, 2048, 128]⟩
abbrev S8x2048x131 : Shape := ⟨3, ![8, 2048, 131]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x131x2048 : Shape := ⟨3, ![8, 131, 2048]⟩
abbrev S8x2048x2048 : Shape := ⟨3, ![8, 2048, 2048]⟩
abbrev S8 : Shape := ⟨1, ![8]⟩
abbrev S8x1x1 : Shape := ⟨3, ![8, 1, 1]⟩
abbrev S1 : Shape := ⟨1, ![1]⟩
abbrev S1x1x1 : Shape := ⟨3, ![1, 1, 1]⟩
abbrev S8x1 : Shape := ⟨2, ![8, 1]⟩
abbrev S8x16x128 : Shape := ⟨3, ![8, 16, 128]⟩
abbrev S8x16 : Shape := ⟨2, ![8, 16]⟩
abbrev S8x16x1 : Shape := ⟨3, ![8, 16, 1]⟩

class Facts : Prop where
  transposes_S8x128x2048_S8x2048x128_0_2_1 : S8x128x2048.Transposes [0, 2, 1] S8x2048x128
  concatenates_S8x2048x3_S8x2048x128_S8x2048x131_d2 : Shape.Concatenates [S8x2048x3, S8x2048x128] S8x2048x131 2
  reducesTo_S8x2048x131_S8x2048_d2 : S8x2048x131.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  transposes_S8x2048x131_S8x131x2048_0_2_1 : S8x2048x131.Transposes [0, 2, 1] S8x131x2048
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S_S8x2048 : S_.BroadcastsInDim S8x2048 (![] : Fin 0 → Fin S8x2048.rank)
  bcast_S_S8 : S_.BroadcastsInDim S8 (![] : Fin 0 → Fin S8.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S1_S1x1x1_2 : S1.BroadcastsInDim S1x1x1 (![2] : Fin 1 → Fin S1x1x1.rank)
  bcast_S1x1x1_S8x1x1_0_1_2 : S1x1x1.BroadcastsInDim S8x1x1 (![0, 1, 2] : Fin 3 → Fin S8x1x1.rank)
  reducesTo_S8x1x1_S8x1_d2 : S8x1x1.ReducesTo [2] S8x1
  bcast_S8x1_S8x1x2048_0_1 : S8x1.BroadcastsInDim S8x1x2048 (![0, 1] : Fin 2 → Fin S8x1x2048.rank)
  bcast_S_S8x1x2048 : S_.BroadcastsInDim S8x1x2048 (![] : Fin 0 → Fin S8x1x2048.rank)
  shapeCasts_S8x1x2048_S8x2048 : S8x1x2048.ShapeCasts S8x2048
  reducesTo_S8x2048_S8_d1 : S8x2048.ReducesTo [1] S8
  bcast_S8_S8x1_0 : S8.BroadcastsInDim S8x1 (![0] : Fin 1 → Fin S8x1.rank)
  bcast_S8x1_S8x2048_0_1 : S8x1.BroadcastsInDim S8x2048 (![0, 1] : Fin 2 → Fin S8x2048.rank)
  natLt_1_32 : 1 < 32
  shapeCasts_S8x2048_S8x16x128 : S8x2048.ShapeCasts S8x16x128
  reducesTo_S8x16x128_S8x16_d2 : S8x16x128.ReducesTo [2] S8x16
  bcast_S8x16_S8x16x1_0_1 : S8x16.BroadcastsInDim S8x16x1 (![0, 1] : Fin 2 → Fin S8x16x1.rank)
  bcast_S8x16x1_S8x16x128_0_1_2 : S8x16x1.BroadcastsInDim S8x16x128 (![0, 1, 2] : Fin 3 → Fin S8x16x128.rank)
  bcast_S_S8x16 : S_.BroadcastsInDim S8x16 (![] : Fin 0 → Fin S8x16.rank)
  reducesTo_S8x16_S8_d1 : S8x16.ReducesTo [1] S8
  dot_S8x2048x131_S8x131x2048_S8x2048x2048_2_1_1_2_0_0_wf : DotDims.WF S8x2048x131 S8x131x2048 S8x2048x2048 [2] [1] [1] [2] [0] [0]
  gather_S8x2048x2048_S8x1x1_S8x1x2048_2_1_0_0_1_2_112048_wf : GatherDims.WF S8x2048x2048 S8x1x1 S8x1x2048 [2] [1] [0] [1] [0] 2 ![1, 1, 2048]

variable [Facts]

variable {F : FTy → Type} [FloatOps F]
def dot_S8x2048x131_S8x131x2048_S8x2048x2048_2_1_1_2_0_0 : DotDims S8x2048x131 S8x131x2048 S8x2048x2048 where
  lhsContracting := [2]
  rhsContracting := [1]
  lhsNonContracting := [1]
  rhsNonContracting := [2]
  lhsBatch := [0]
  rhsBatch := [0]
  wf := dot_S8x2048x131_S8x131x2048_S8x2048x2048_2_1_1_2_0_0_wf
def gather_S8x2048x2048_S8x1x1_S8x1x2048_2_1_0_0_1_2_112048 : GatherDims S8x2048x2048 S8x1x1 S8x1x2048 where
  offsetDims := [2]
  collapsedSliceDims := [1]
  operandBatchingDims := [0]
  startIndicesBatchingDims := [0]
  startIndexMap := [1]
  indexVectorDim := 2
  sliceSizes := ![1, 1, 2048]
  wf := gather_S8x2048x2048_S8x1x1_S8x1x2048_2_1_0_0_1_2_112048_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_take_along_axis {F : FTy → Type} [FloatOps F] (arg0 : FVec F S8x2048x2048 .f32) (arg1 : IVec S8x1x1 32) : FVec F S8x1x2048 .f32 :=
  let c : IVec S_ 32 := constantI S_ 32 0#32
  let v0 : IVec S8x1x1 32 := broadcastInDim S8x1x1 ![] bcast_S_S8x1x1 c
  let v1 : IVec S8x1x1 1 := cmpi .slt arg1 v0
  let c_0 : IVec S_ 32 := constantI S_ 32 2048#32
  let v2 : IVec S8x1x1 32 := broadcastInDim S8x1x1 ![] bcast_S_S8x1x1 c_0
  let v3 : IVec S8x1x1 32 := addi arg1 v2
  let v4 : IVec S8x1x1 32 := select v1 v3 arg1
  let c_1 : IVec S1 32 := constantI S1 32 2047#32
  let c_2 : IVec S_ 32 := constantI S_ 32 0#32
  let v5 : IVec S8x1x1 32 := broadcastInDim S8x1x1 ![] bcast_S_S8x1x1 c_2
  let v6 : IVec S8x1x1 1 := cmpi .sge v4 v5
  let v7 : IVec S1x1x1 32 := broadcastInDim S1x1x1 ![2] bcast_S1_S1x1x1_2 c_1
  let v8 : IVec S8x1x1 32 := broadcastInDim S8x1x1 ![0, 1, 2] bcast_S1x1x1_S8x1x1_0_1_2 v7
  let v9 : IVec S8x1x1 1 := cmpi .sle v4 v8
  let v10 : IVec S8x1x1 1 := andi v6 v9
  let c_3 : IVec S_ 1 := constantI S_ 1 1#1
  let v11 : IVec S8x1 1 := (fun x v => Host.reduce IntOp.andi x v reducesTo_S8x1x1_S8x1_d2 h_S_) v10 c_3
  let v12 : FVec F S8x1x2048 .f32 := (fun x i => Host.gather gather_S8x2048x2048_S8x1x1_S8x1x2048_2_1_0_0_1_2_112048 x i) arg0 v4
  let v13 : IVec S8x1x2048 1 := broadcastInDim S8x1x2048 ![0, 1] bcast_S8x1_S8x1x2048_0_1 v11
  let cst : FVec F S_ .f32 := constant S_ .f32 0x7FC00000#32
  let v14 : FVec F S8x1x2048 .f32 := broadcastInDim S8x1x2048 ![] bcast_S_S8x1x2048 cst
  let v15 : FVec F S8x1x2048 .f32 := select v13 v12 v14
  v15

def fn_argmax {F : FTy → Type} [FloatOps F] (arg0 : FVec F S8x2048 .f32) : IVec S8 32 :=
  let v0 : IVec S8x2048 32 := iotaInDim S8x2048 32 1
  let cst : FVec F S_ .f32 := constant S_ .f32 0xFF800000#32
  let c : IVec S_ 32 := constantI S_ 32 0#32
  let v1_0 : FVec F S8 .f32 := (fun x y u v j => (Host.argReduce reducer_argmax_f32_i32 x y u v reducesTo_S8x2048_S8_d1 h_S_ j).1) arg0 v0 cst c
  let v1_1 : IVec S8 32 := (fun x y u v j => (Host.argReduce reducer_argmax_f32_i32 x y u v reducesTo_S8x2048_S8_d1 h_S_ j).2) arg0 v0 cst c
  v1_1

def fn_steps_1_part1 {F : FTy → Type} [FloatOps F] (v3 : FVec F S8x2048 .f32) (v4 : IVec S8 32) (v13 : IVec S8 1) (v19 : IVec S8x16x128 32) : FVec F S8x2048 .f32 × IVec S8 32 × IVec S8 1 :=
  let c_2 : IVec S_ 32 := constantI S_ 32 0#32
  let v20 : IVec S8x16 32 := (fun x v => Host.reduce IntOp.addi x v reducesTo_S8x16x128_S8x16_d2 h_S_) v19 c_2
  let c_3 : IVec S_ 32 := constantI S_ 32 1#32
  let v21 : IVec S8x16 32 := broadcastInDim S8x16 ![] bcast_S_S8x16 c_3
  let v22 : IVec S8x16 1 := cmpi .eq v20 v21
  let c_4 : IVec S_ 1 := constantI S_ 1 1#1
  let v23 : IVec S8 1 := (fun x v => Host.reduce IntOp.andi x v reducesTo_S8x16_S8_d1 h_S_) v22 c_4
  let v24 : IVec S8 1 := andi v13 v23
  (v3, v4, v24)

def fn_steps_1 {F : FTy → Type} [FloatOps F] (arg0 : FVec F S8x2048x2048 .f32) (arg1 : FVec F S8x2048 .f32) (arg2 : IVec S8 32) (arg3 : IVec S8 1) : FVec F S8x2048 .f32 × IVec S8 32 × IVec S8 1 :=
  let v0 : IVec S8x1x1 32 := broadcastInDim S8x1x1 ![0] bcast_S8_S8x1x1_0 arg2
  let v1 : FVec F S8x1x2048 .f32 := fn_take_along_axis (F := F) arg0 v0
  let v2 : FVec F S8x2048 .f32 := shapeCast S8x2048 v1 shapeCasts_S8x1x2048_S8x2048
  let v3 : FVec F S8x2048 .f32 := minimumf arg1 v2
  let v4 : IVec S8 32 := fn_argmax (F := F) v3
  let cst : FVec F S_ .f32 := constant S_ .f32 0xFF800000#32
  let v5 : FVec F S8 .f32 := (fun x v => Host.reduce FloatOps.maximumf x v reducesTo_S8x2048_S8_d1 h_S_) v3 cst
  let v6 : FVec F S8x1 .f32 := broadcastInDim S8x1 ![0] bcast_S8_S8x1_0 v5
  let v7 : FVec F S8x2048 .f32 := broadcastInDim S8x2048 ![0, 1] bcast_S8x1_S8x2048_0_1 v6
  let v8 : IVec S8x2048 1 := cmpf .oeq v3 v7
  let v9 : IVec S8x2048 32 := (extui 32 · natLt_1_32) v8
  let c : IVec S_ 32 := constantI S_ 32 0#32
  let v10 : IVec S8 32 := (fun x v => Host.reduce IntOp.addi x v reducesTo_S8x2048_S8_d1 h_S_) v9 c
  let c_0 : IVec S_ 32 := constantI S_ 32 1#32
  let v11 : IVec S8 32 := broadcastInDim S8 ![] bcast_S_S8 c_0
  let v12 : IVec S8 1 := cmpi .eq v10 v11
  let v13 : IVec S8 1 := andi arg3 v12
  let v14 : FVec F S8x16x128 .f32 := shapeCast S8x16x128 v3 shapeCasts_S8x2048_S8x16x128
  let cst_1 : FVec F S_ .f32 := constant S_ .f32 0xFF800000#32
  let v15 : FVec F S8x16 .f32 := (fun x v => Host.reduce FloatOps.maximumf x v reducesTo_S8x16x128_S8x16_d2 h_S_) v14 cst_1
  let v16 : FVec F S8x16x1 .f32 := broadcastInDim S8x16x1 ![0, 1] bcast_S8x16_S8x16x1_0_1 v15
  let v17 : FVec F S8x16x128 .f32 := broadcastInDim S8x16x128 ![0, 1, 2] bcast_S8x16x1_S8x16x128_0_1_2 v16
  let v18 : IVec S8x16x128 1 := cmpf .oeq v14 v17
  let v19 : IVec S8x16x128 32 := (extui 32 · natLt_1_32) v18
  fn_steps_1_part1 (F := F) v3 v4 v13 v19

def fn_steps_8 {F : FTy → Type} [FloatOps F] (arg0 : FVec F S8x2048x2048 .f32) (arg1 : FVec F S8x2048 .f32) (arg2 : IVec S8 32) (arg3 : IVec S8 1) : FVec F S8x2048 .f32 × IVec S8 32 × IVec S8 1 :=
  let v0_0 : FVec F S8x2048 .f32 := (fn_steps_1 (F := F) arg0 arg1 arg2 arg3).1
  let v0_1 : IVec S8 32 := (fn_steps_1 (F := F) arg0 arg1 arg2 arg3).2.1
  let v0_2 : IVec S8 1 := (fn_steps_1 (F := F) arg0 arg1 arg2 arg3).2.2
  let v1_0 : FVec F S8x2048 .f32 := (fn_steps_1 (F := F) arg0 v0_0 v0_1 v0_2).1
  let v1_1 : IVec S8 32 := (fn_steps_1 (F := F) arg0 v0_0 v0_1 v0_2).2.1
  let v1_2 : IVec S8 1 := (fn_steps_1 (F := F) arg0 v0_0 v0_1 v0_2).2.2
  let v2_0 : FVec F S8x2048 .f32 := (fn_steps_1 (F := F) arg0 v1_0 v1_1 v1_2).1
  let v2_1 : IVec S8 32 := (fn_steps_1 (F := F) arg0 v1_0 v1_1 v1_2).2.1
  let v2_2 : IVec S8 1 := (fn_steps_1 (F := F) arg0 v1_0 v1_1 v1_2).2.2
  let v3_0 : FVec F S8x2048 .f32 := (fn_steps_1 (F := F) arg0 v2_0 v2_1 v2_2).1
  let v3_1 : IVec S8 32 := (fn_steps_1 (F := F) arg0 v2_0 v2_1 v2_2).2.1
  let v3_2 : IVec S8 1 := (fn_steps_1 (F := F) arg0 v2_0 v2_1 v2_2).2.2
  let v4_0 : FVec F S8x2048 .f32 := (fn_steps_1 (F := F) arg0 v3_0 v3_1 v3_2).1
  let v4_1 : IVec S8 32 := (fn_steps_1 (F := F) arg0 v3_0 v3_1 v3_2).2.1
  let v4_2 : IVec S8 1 := (fn_steps_1 (F := F) arg0 v3_0 v3_1 v3_2).2.2
  let v5_0 : FVec F S8x2048 .f32 := (fn_steps_1 (F := F) arg0 v4_0 v4_1 v4_2).1
  let v5_1 : IVec S8 32 := (fn_steps_1 (F := F) arg0 v4_0 v4_1 v4_2).2.1
  let v5_2 : IVec S8 1 := (fn_steps_1 (F := F) arg0 v4_0 v4_1 v4_2).2.2
  let v6_0 : FVec F S8x2048 .f32 := (fn_steps_1 (F := F) arg0 v5_0 v5_1 v5_2).1
  let v6_1 : IVec S8 32 := (fn_steps_1 (F := F) arg0 v5_0 v5_1 v5_2).2.1
  let v6_2 : IVec S8 1 := (fn_steps_1 (F := F) arg0 v5_0 v5_1 v5_2).2.2
  let v7_0 : FVec F S8x2048 .f32 := (fn_steps_1 (F := F) arg0 v6_0 v6_1 v6_2).1
  let v7_1 : IVec S8 32 := (fn_steps_1 (F := F) arg0 v6_0 v6_1 v6_2).2.1
  let v7_2 : IVec S8 1 := (fn_steps_1 (F := F) arg0 v6_0 v6_1 v6_2).2.2
  (v7_0, v7_1, v7_2)

def fn_steps_64 {F : FTy → Type} [FloatOps F] (arg0 : FVec F S8x2048x2048 .f32) (arg1 : FVec F S8x2048 .f32) (arg2 : IVec S8 32) (arg3 : IVec S8 1) : FVec F S8x2048 .f32 × IVec S8 32 × IVec S8 1 :=
  let v0_0 : FVec F S8x2048 .f32 := (fn_steps_8 (F := F) arg0 arg1 arg2 arg3).1
  let v0_1 : IVec S8 32 := (fn_steps_8 (F := F) arg0 arg1 arg2 arg3).2.1
  let v0_2 : IVec S8 1 := (fn_steps_8 (F := F) arg0 arg1 arg2 arg3).2.2
  let v1_0 : FVec F S8x2048 .f32 := (fn_steps_8 (F := F) arg0 v0_0 v0_1 v0_2).1
  let v1_1 : IVec S8 32 := (fn_steps_8 (F := F) arg0 v0_0 v0_1 v0_2).2.1
  let v1_2 : IVec S8 1 := (fn_steps_8 (F := F) arg0 v0_0 v0_1 v0_2).2.2
  let v2_0 : FVec F S8x2048 .f32 := (fn_steps_8 (F := F) arg0 v1_0 v1_1 v1_2).1
  let v2_1 : IVec S8 32 := (fn_steps_8 (F := F) arg0 v1_0 v1_1 v1_2).2.1
  let v2_2 : IVec S8 1 := (fn_steps_8 (F := F) arg0 v1_0 v1_1 v1_2).2.2
  let v3_0 : FVec F S8x2048 .f32 := (fn_steps_8 (F := F) arg0 v2_0 v2_1 v2_2).1
  let v3_1 : IVec S8 32 := (fn_steps_8 (F := F) arg0 v2_0 v2_1 v2_2).2.1
  let v3_2 : IVec S8 1 := (fn_steps_8 (F := F) arg0 v2_0 v2_1 v2_2).2.2
  let v4_0 : FVec F S8x2048 .f32 := (fn_steps_8 (F := F) arg0 v3_0 v3_1 v3_2).1
  let v4_1 : IVec S8 32 := (fn_steps_8 (F := F) arg0 v3_0 v3_1 v3_2).2.1
  let v4_2 : IVec S8 1 := (fn_steps_8 (F := F) arg0 v3_0 v3_1 v3_2).2.2
  let v5_0 : FVec F S8x2048 .f32 := (fn_steps_8 (F := F) arg0 v4_0 v4_1 v4_2).1
  let v5_1 : IVec S8 32 := (fn_steps_8 (F := F) arg0 v4_0 v4_1 v4_2).2.1
  let v5_2 : IVec S8 1 := (fn_steps_8 (F := F) arg0 v4_0 v4_1 v4_2).2.2
  let v6_0 : FVec F S8x2048 .f32 := (fn_steps_8 (F := F) arg0 v5_0 v5_1 v5_2).1
  let v6_1 : IVec S8 32 := (fn_steps_8 (F := F) arg0 v5_0 v5_1 v5_2).2.1
  let v6_2 : IVec S8 1 := (fn_steps_8 (F := F) arg0 v5_0 v5_1 v5_2).2.2
  let v7_0 : FVec F S8x2048 .f32 := (fn_steps_8 (F := F) arg0 v6_0 v6_1 v6_2).1
  let v7_1 : IVec S8 32 := (fn_steps_8 (F := F) arg0 v6_0 v6_1 v6_2).2.1
  let v7_2 : IVec S8 1 := (fn_steps_8 (F := F) arg0 v6_0 v6_1 v6_2).2.2
  (v7_0, v7_1, v7_2)

def fn_part2 {F : FTy → Type} [FloatOps F] (main_v15 : FVec F S8x2048x2048 .f32) (main_v25_0 : FVec F S8x2048 .f32) (main_v25_1 : IVec S8 32) (main_v25_2 : IVec S8 1) : IVec S8 1 :=
  let main_v26_2 : IVec S8 1 := (fn_steps_64 (F := F) main_v15 main_v25_0 main_v25_1 main_v25_2).2.2
  main_v26_2

def fn_part1 {F : FTy → Type} [FloatOps F] (main_v15 : FVec F S8x2048x2048 .f32) (main_v16 : FVec F S8x2048 .f32) (main_v17 : IVec S8 32) (main_c_3 : IVec S_ 1) : IVec S8 1 :=
  let main_v18 : IVec S8 1 := broadcastInDim S8 ![] bcast_S_S8 main_c_3
  let main_v19_0 : FVec F S8x2048 .f32 := (fn_steps_64 (F := F) main_v15 main_v16 main_v17 main_v18).1
  let main_v19_1 : IVec S8 32 := (fn_steps_64 (F := F) main_v15 main_v16 main_v17 main_v18).2.1
  let main_v19_2 : IVec S8 1 := (fn_steps_64 (F := F) main_v15 main_v16 main_v17 main_v18).2.2
  let main_v20_0 : FVec F S8x2048 .f32 := (fn_steps_64 (F := F) main_v15 main_v19_0 main_v19_1 main_v19_2).1
  let main_v20_1 : IVec S8 32 := (fn_steps_64 (F := F) main_v15 main_v19_0 main_v19_1 main_v19_2).2.1
  let main_v20_2 : IVec S8 1 := (fn_steps_64 (F := F) main_v15 main_v19_0 main_v19_1 main_v19_2).2.2
  let main_v21_0 : FVec F S8x2048 .f32 := (fn_steps_64 (F := F) main_v15 main_v20_0 main_v20_1 main_v20_2).1
  let main_v21_1 : IVec S8 32 := (fn_steps_64 (F := F) main_v15 main_v20_0 main_v20_1 main_v20_2).2.1
  let main_v21_2 : IVec S8 1 := (fn_steps_64 (F := F) main_v15 main_v20_0 main_v20_1 main_v20_2).2.2
  let main_v22_0 : FVec F S8x2048 .f32 := (fn_steps_64 (F := F) main_v15 main_v21_0 main_v21_1 main_v21_2).1
  let main_v22_1 : IVec S8 32 := (fn_steps_64 (F := F) main_v15 main_v21_0 main_v21_1 main_v21_2).2.1
  let main_v22_2 : IVec S8 1 := (fn_steps_64 (F := F) main_v15 main_v21_0 main_v21_1 main_v21_2).2.2
  let main_v23_0 : FVec F S8x2048 .f32 := (fn_steps_64 (F := F) main_v15 main_v22_0 main_v22_1 main_v22_2).1
  let main_v23_1 : IVec S8 32 := (fn_steps_64 (F := F) main_v15 main_v22_0 main_v22_1 main_v22_2).2.1
  let main_v23_2 : IVec S8 1 := (fn_steps_64 (F := F) main_v15 main_v22_0 main_v22_1 main_v22_2).2.2
  let main_v24_0 : FVec F S8x2048 .f32 := (fn_steps_64 (F := F) main_v15 main_v23_0 main_v23_1 main_v23_2).1
  let main_v24_1 : IVec S8 32 := (fn_steps_64 (F := F) main_v15 main_v23_0 main_v23_1 main_v23_2).2.1
  let main_v24_2 : IVec S8 1 := (fn_steps_64 (F := F) main_v15 main_v23_0 main_v23_1 main_v23_2).2.2
  let main_v25_0 : FVec F S8x2048 .f32 := (fn_steps_64 (F := F) main_v15 main_v24_0 main_v24_1 main_v24_2).1
  let main_v25_1 : IVec S8 32 := (fn_steps_64 (F := F) main_v15 main_v24_0 main_v24_1 main_v24_2).2.1
  let main_v25_2 : IVec S8 1 := (fn_steps_64 (F := F) main_v15 main_v24_0 main_v24_1 main_v24_2).2.2
  let main_v26_0 : FVec F S8x2048 .f32 := (fn_steps_64 (F := F) main_v15 main_v25_0 main_v25_1 main_v25_2).1
  let main_v26_1 : IVec S8 32 := (fn_steps_64 (F := F) main_v15 main_v25_0 main_v25_1 main_v25_2).2.1
  fn_part2 (F := F) main_v15 main_v25_0 main_v25_1 main_v25_2

def fn {F : FTy → Type} [FloatOps F] (main_arg0 : FVec F S8x2048x3 .f32) (main_arg1 : FVec F S8x128x2048 .f32) : IVec S8 1 :=
  let main_v0 : FVec F S8x2048x128 .f32 := (transpose S8x2048x128 [0, 2, 1] · transposes_S8x128x2048_S8x2048x128_0_2_1) main_arg1
  let main_v1 : FVec F S8x2048x131 .f32 := (fun a b => concatenate S8x2048x131 2 [⟨S8x2048x3, a⟩, ⟨S8x2048x128, b⟩] concatenates_S8x2048x3_S8x2048x128_S8x2048x131_d2) main_arg0 main_v0
  let main_v2 : FVec F S8x2048x131 .f32 := mulf main_v1 main_v1
  let main_cst : FVec F S_ .f32 := constant S_ .f32 0x00000000#32
  let main_v3 : FVec F S8x2048 .f32 := (fun x v => Host.reduceAdd x v reducesTo_S8x2048x131_S8x2048_d2 h_S_) main_v2 main_cst
  let main_v4 : FVec F S8x2048x1 .f32 := broadcastInDim S8x2048x1 ![0, 1] bcast_S8x2048_S8x2048x1_0_1 main_v3
  let main_v5 : FVec F S8x2048x131 .f32 := mulf main_v1 main_v1
  let main_cst_0 : FVec F S_ .f32 := constant S_ .f32 0x00000000#32
  let main_v6 : FVec F S8x2048 .f32 := (fun x v => Host.reduceAdd x v reducesTo_S8x2048x131_S8x2048_d2 h_S_) main_v5 main_cst_0
  let main_v7 : FVec F S8x1x2048 .f32 := broadcastInDim S8x1x2048 ![0, 2] bcast_S8x2048_S8x1x2048_0_2 main_v6
  let main_v8 : FVec F S8x131x2048 .f32 := (transpose S8x131x2048 [0, 2, 1] · transposes_S8x2048x131_S8x131x2048_0_2_1) main_v1
  let main_v9 : FVec F S8x2048x2048 .f32 := (fun l r => Host.dotGeneral dot_S8x2048x131_S8x131x2048_S8x2048x2048_2_1_1_2_0_0 none l r) main_v1 main_v8
  let main_v10 : FVec F S8x2048x2048 .f32 := broadcastInDim S8x2048x2048 ![0, 1, 2] bcast_S8x2048x1_S8x2048x2048_0_1_2 main_v4
  let main_v11 : FVec F S8x2048x2048 .f32 := broadcastInDim S8x2048x2048 ![0, 1, 2] bcast_S8x1x2048_S8x2048x2048_0_1_2 main_v7
  let main_v12 : FVec F S8x2048x2048 .f32 := addf main_v10 main_v11
  let main_cst_1 : FVec F S_ .f32 := constant S_ .f32 0x40000000#32
  let main_v13 : FVec F S8x2048x2048 .f32 := broadcastInDim S8x2048x2048 ![] bcast_S_S8x2048x2048 main_cst_1
  let main_v14 : FVec F S8x2048x2048 .f32 := mulf main_v13 main_v9
  let main_v15 : FVec F S8x2048x2048 .f32 := subf main_v12 main_v14
  let main_cst_2 : FVec F S_ .f32 := constant S_ .f32 0x501502F9#32
  let main_v16 : FVec F S8x2048 .f32 := broadcastInDim S8x2048 ![] bcast_S_S8x2048 main_cst_2
  let main_c : IVec S_ 32 := constantI S_ 32 0#32
  let main_v17 : IVec S8 32 := broadcastInDim S8 ![] bcast_S_S8 main_c
  let main_c_3 : IVec S_ 1 := constantI S_ 1 1#1
  fn_part1 (F := F) main_v15 main_v16 main_v17 main_c_3
-- ==== VersionIdeal.lean ====
abbrev S8x2048x3 : Shape := ⟨3, ![8, 2048, 3]⟩
abbrev S8x128x2048 : Shape := ⟨3, ![8, 128, 2048]⟩
abbrev S8x2048x128 : Shape := ⟨3, ![8, 2048, 128]⟩
abbrev S8x2048x131 : Shape := ⟨3, ![8, 2048, 131]⟩
abbrev S_ : Shape := ⟨0, ![]⟩
abbrev S8x2048 : Shape := ⟨2, ![8, 2048]⟩
abbrev S8x1x2048 : Shape := ⟨3, ![8, 1, 2048]⟩
abbrev S8x3x2048 : Shape := ⟨3, ![8, 3, 2048]⟩
abbrev S8x131x2048 : Shape := ⟨3, ![8, 131, 2048]⟩
abbrev S8x512x1 : Shape := ⟨3, ![8, 512, 1]⟩
abbrev S2x131x2048 : Shape := ⟨3, ![2, 131, 2048]⟩
abbrev S2x1x2048 : Shape := ⟨3, ![2, 1, 2048]⟩
abbrev S2x512x1 : Shape := ⟨3, ![2, 512, 1]⟩
abbrev S2x2048x2048 : Shape := ⟨3, ![2, 2048, 2048]⟩
abbrev S1x131x2048 : Shape := ⟨3, ![1, 131, 2048]⟩
abbrev S131x2048 : Shape := ⟨2, ![131, 2048]⟩
abbrev S2048x2048 : Shape := ⟨2, ![2048, 2048]⟩
abbrev S1x1x2048 : Shape := ⟨3, ![1, 1, 2048]⟩
abbrev S1x2048 : Shape := ⟨2, ![1, 2048]⟩
abbrev S2048x1 : Shape := ⟨2, ![2048, 1]⟩
abbrev S1x2048x2048 : Shape := ⟨3, ![1, 2048, 2048]⟩
abbrev S16x1 : Shape := ⟨2, ![16, 1]⟩
abbrev S16x128 : Shape := ⟨2, ![16, 128]⟩
abbrev S1x1 : Shape := ⟨2, ![1, 1]⟩
abbrev S1x1x1 : Shape := ⟨3, ![1, 1, 1]⟩
abbrev S16 : Shape := ⟨1, ![16]⟩
abbrev S8x1 : Shape := ⟨2, ![8, 1]⟩
abbrev S4x1 : Shape := ⟨2, ![4, 1]⟩
abbrev S2x1 : Shape := ⟨2, ![2, 1]⟩
abbrev S1 : Shape := ⟨1, ![1]⟩
abbrev S8x512 : Shape := ⟨2, ![8, 512]⟩

abbrev nBuf : Space → Nat
  | .hbm => 12
  | .vmem => 7
  | .smem => 0
  | _ => 0

abbrev bufTy : (tb : Table) → Fin (tcTables nBuf tb) → BufTy
  | .hbm, ⟨0, _⟩ => ⟨S8x2048x3, .f32⟩
  | .hbm, ⟨1, _⟩ => ⟨S8x128x2048, .f32⟩
  | .hbm, ⟨2, _⟩ => ⟨S8x2048x128, .f32⟩
  | .hbm, ⟨3, _⟩ => ⟨S8x2048x131, .f32⟩
  | .hbm, ⟨4, _⟩ => ⟨S8x2048x131, .f32⟩
  | .hbm, ⟨5, _⟩ => ⟨S_, .f32⟩
  | .hbm, ⟨6, _⟩ => ⟨S8x2048, .f32⟩
  | .hbm, ⟨7, _⟩ => ⟨S8x1x2048, .f32⟩
  | .hbm, ⟨8, _⟩ => ⟨S8x3x2048, .f32⟩
  | .hbm, ⟨9, _⟩ => ⟨S8x131x2048, .f32⟩
  | .hbm, ⟨10, _⟩ => ⟨S8x512x1, .i32⟩
  | .hbm, ⟨11, _⟩ => ⟨S8x512, .i32⟩
  | .local _ .vmem, ⟨0, _⟩ => ⟨S2x131x2048, .f32⟩
  | .local _ .vmem, ⟨1, _⟩ => ⟨S2x131x2048, .f32⟩
  | .local _ .vmem, ⟨2, _⟩ => ⟨S2x1x2048, .f32⟩
  | .local _ .vmem, ⟨3, _⟩ => ⟨S2x1x2048, .f32⟩
  | .local _ .vmem, ⟨4, _⟩ => ⟨S2x512x1, .i32⟩
  | .local _ .vmem, ⟨5, _⟩ => ⟨S2x512x1, .i32⟩
  | .local _ .vmem, ⟨6, _⟩ => ⟨S2x2048x2048, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_33 : BitVec 32 := 0#32
  let c512_i32 : BitVec 32 := 512#32
  let v40 : BitVec 32 := Scalar.addi c0_i32_33 c512_i32
  let c1_i32 : BitVec 32 := 1#32
  ⟨c0_i32_33, v40, c1_i32⟩
def k0_off1 (arg7 : BitVec 32) : Fin 3 → Nat :=
  let c0_35 : Index := 0#32
  let v42 : Index := Scalar.indexCast arg7
  let c0_36 : Index := 0#32
  ![0, v42.toNat, 0]

def k0_chk1 (arg7 : BitVec 32) : Prop :=
  (∀ a, (k0_off1 arg7) a + S1x1x2048.size a ≤ S2x2048x2048.size a)
theorem k0_off1_inb : ∀ (arg7 : BitVec 32) (k0_hw1 : k0_chk1 arg7), ∀ a, (k0_off1 arg7) a + S1x1x2048.size a ≤ S2x2048x2048.size a := fun arg7 k0_hw1 => k0_hw1

def k0_off2 (k0_t1 : Fin k0_t1_loop.trips) : Fin 3 → Nat :=
  let c0_37 : Index := 0#32
  let c0_i32_33 : BitVec 32 := 0#32
  let c1_i32 : BitVec 32 := 1#32
  let arg5 : BitVec 32 := Scf.iv c0_i32_33 c1_i32 k0_t1
  let v48 : Index := Scalar.indexCast arg5
  let c0_38 : Index := 0#32
  ![0, v48.toNat, 0]
def k0_off3 (arg9 : BitVec 32) : Fin 3 → Nat :=
  let c1_41 : Index := 1#32
  let v90 : Index := Scalar.indexCast arg9
  let c0_42 : Index := 0#32
  ![1, v90.toNat, 0]

def k0_chk2 (arg9 : BitVec 32) : Prop :=
  (∀ a, (k0_off3 arg9) a + S1x1x2048.size a ≤ S2x2048x2048.size a)
theorem k0_off3_inb : ∀ (arg9 : BitVec 32) (k0_hw2 : k0_chk2 arg9), ∀ a, (k0_off3 arg9) a + S1x1x2048.size a ≤ S2x2048x2048.size a := fun arg9 k0_hw2 => k0_hw2

def k0_off4 (k0_t1 : Fin k0_t1_loop.trips) : Fin 3 → Nat :=
  let c1_43 : Index := 1#32
  let c0_i32_33 : BitVec 32 := 0#32
  let c1_i32 : BitVec 32 := 1#32
  let arg5 : BitVec 32 := Scf.iv c0_i32_33 c1_i32 k0_t1
  let v96 : Index := Scalar.indexCast arg5
  let c0_44 : Index := 0#32
  ![1, v96.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x131x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x2048x3 : Shape := ⟨3, ![8, 2048, 3]⟩
abbrev S8x128x2048 : Shape := ⟨3, ![8, 128, 2048]⟩
abbrev S8x2048x128 : Shape := ⟨3, ![8, 2048, 128]⟩
abbrev S8x2048x131 : Shape := ⟨3, ![8, 2048, 131]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x131x2048 : Shape := ⟨3, ![8, 131, 2048]⟩
abbrev S8x2048x2048 : Shape := ⟨3, ![8, 2048, 2048]⟩
abbrev S8 : Shape := ⟨1, ![8]⟩
abbrev S512x8 : Shape := ⟨2, ![512, 8]⟩
abbrev S8x1x1 : Shape := ⟨3, ![8, 1, 1]⟩
abbrev S1 : Shape := ⟨1, ![1]⟩
abbrev S1x1x1 : Shape := ⟨3, ![1, 1, 1]⟩
abbrev S8x1 : Shape := ⟨2, ![8, 1]⟩
abbrev S1x8 : Shape := ⟨2, ![1, 8]⟩
abbrev S8x512 : Shape := ⟨2, ![8, 512]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x128x2048, .f32⟩
  | .hbm, ⟨2, _⟩ => ⟨S8x2048x128, .f32⟩
  | .hbm, ⟨3, _⟩ => ⟨S8x2048x131, .f32⟩
  | .hbm, ⟨4, _⟩ => ⟨S8x2048x131, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S8x2048x131, .f32⟩
  | .hbm, ⟨9, _⟩ => ⟨S_, .f32⟩
  | .hbm, ⟨10, _⟩ => ⟨S8x2048, .f32⟩
  | .hbm, ⟨11, _⟩ => ⟨S8x1x2048, .f32⟩
  | .hbm, ⟨12, _⟩ => ⟨S8x131x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S_, .i32⟩
  | .hbm, ⟨24, _⟩ => ⟨S8, .i32⟩
  | .hbm, ⟨25, _⟩ => ⟨S_, .i32⟩
  | .hbm, ⟨26, _⟩ => ⟨S512x8, .i32⟩
  | .hbm, ⟨27, _⟩ => ⟨S_, .i32⟩
  | .hbm, ⟨28, _⟩ => ⟨S8x2048x2048, .f32⟩
  | .hbm, ⟨29, _⟩ => ⟨S_, .i32⟩
  | .hbm, ⟨30, _⟩ => ⟨S8x2048, .f32⟩
  | .hbm, ⟨31, _⟩ => ⟨S8, .i32⟩
  | .hbm, ⟨32, _⟩ => ⟨S512x8, .i32⟩
  | .hbm, ⟨33, _⟩ => ⟨S_, .i32⟩
  | .hbm, ⟨34, _⟩ => ⟨S_, .i1⟩
  | .hbm, ⟨35, _⟩ => ⟨S8x1x1, .i32⟩
  | .hbm, ⟨36, _⟩ => ⟨S_, .i32⟩
  | .hbm, ⟨37, _⟩ => ⟨S8x1x1, .i32⟩
  | .hbm, ⟨38, _⟩ => ⟨S8x1x1, .i1⟩
  | .hbm, ⟨39, _⟩ => ⟨S_, .i32⟩
  | .hbm, ⟨40, _⟩ => ⟨S8x1x1, .i32⟩
  | .hbm, ⟨41, _⟩ => ⟨S8x1x1, .i32⟩
  | .hbm, ⟨42, _⟩ => ⟨S8x1x1, .i32⟩
  | .hbm, ⟨43, _⟩ => ⟨S1, .i32⟩
  | .hbm, ⟨44, _⟩ => ⟨S_, .i32⟩
  | .hbm, ⟨45, _⟩ => ⟨S8x1x1, .i32⟩
  | .hbm, ⟨46, _⟩ => ⟨S8x1x1, .i1⟩
  | .hbm, ⟨47, _⟩ => ⟨S1x1x1, .i32⟩
  | .hbm, ⟨48, _⟩ => ⟨S8x1x1, .i32⟩
  | .hbm, ⟨49, _⟩ => ⟨S8x1x1, .i1⟩
  | .hbm, ⟨50, _⟩ => ⟨S8x1x1, .i1⟩
  | .hbm, ⟨51, _⟩ => ⟨S_, .i1⟩
  | .hbm, ⟨52, _⟩ => ⟨S8x1, .i1⟩
  | .hbm, ⟨53, _⟩ => ⟨S8x1x2048, .f32⟩
  | .hbm, ⟨54, _⟩ => ⟨S8x1x2048, .i1⟩
  | .hbm, ⟨55, _⟩ => ⟨S_, .f32⟩
  | .hbm, ⟨56, _⟩ => ⟨S8x1x2048, .f32⟩
  | .hbm, ⟨57, _⟩ => ⟨S8x1x2048, .f32⟩
  | .hbm, ⟨58, _⟩ => ⟨S8x2048, .f32⟩
  | .hbm, ⟨59, _⟩ => ⟨S8x2048, .f32⟩
  | .hbm, ⟨60, _⟩ => ⟨S8x2048, .i32⟩
  | .hbm, ⟨61, _⟩ => ⟨S_, .f32⟩
  | .hbm, ⟨62, _⟩ => ⟨S_, .i32⟩
  | .hbm, ⟨63, _⟩ => ⟨S8, .f32⟩
  | .hbm, ⟨64, _⟩ => ⟨S8, .i32⟩
  | .hbm, ⟨65, _⟩ => ⟨S1x8, .i32⟩
  | .hbm, ⟨66, _⟩ => ⟨S_, .i32⟩
  | .hbm, ⟨67, _⟩ => ⟨S512x8, .i32⟩
  | .hbm, ⟨68, _⟩ => ⟨S_, .i32⟩
  | .hbm, ⟨69, _⟩ => ⟨S_, .i32⟩
  | .hbm, ⟨70, _⟩ => ⟨S8x512, .i32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_c_4 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev main_while0c_c_9 : Ref sig .tc := ⟨.hbm, 33, rfl⟩
abbrev main_while0c_v21 : Ref sig .tc := ⟨.hbm, 34, rfl⟩
abbrev main_while0b_v21 : Ref sig .tc := ⟨.hbm, 35, rfl⟩
abbrev main_while0b_call0_c : Ref sig .tc := ⟨.hbm, 36, rfl⟩
abbrev main_while0b_call0_v0 : Ref sig .tc := ⟨.hbm, 37, rfl⟩
abbrev main_while0b_call0_v1 : Ref sig .tc := ⟨.hbm, 38, rfl⟩
abbrev main_while0b_call0_c_0 : Ref sig .tc := ⟨.hbm, 39, rfl⟩
abbrev main_while0b_call0_v2 : Ref sig .tc := ⟨.hbm, 40, rfl⟩
abbrev main_while0b_call0_v3 : Ref sig .tc := ⟨.hbm, 41, rfl⟩
abbrev main_while0b_call0_v4 : Ref sig .tc := ⟨.hbm, 42, rfl⟩
abbrev main_while0b_call0_c_1 : Ref sig .tc := ⟨.hbm, 43, rfl⟩
abbrev main_while0b_call0_c_2 : Ref sig .tc := ⟨.hbm, 44, rfl⟩
abbrev main_while0b_call0_v5 : Ref sig .tc := ⟨.hbm, 45, rfl⟩
abbrev main_while0b_call0_v6 : Ref sig .tc := ⟨.hbm, 46, rfl⟩
abbrev main_while0b_call0_v7 : Ref sig .tc := ⟨.hbm, 47, rfl⟩
abbrev main_while0b_call0_v8 : Ref sig .tc := ⟨.hbm, 48, rfl⟩
abbrev main_while0b_call0_v9 : Ref sig .tc := ⟨.hbm, 49, rfl⟩
abbrev main_while0b_call0_v10 : Ref sig .tc := ⟨.hbm, 50, rfl⟩
abbrev main_while0b_call0_c_3 : Ref sig .tc := ⟨.hbm, 51, rfl⟩
abbrev main_while0b_call0_v11 : Ref sig .tc := ⟨.hbm, 52, rfl⟩
abbrev main_while0b_call0_v12 : Ref sig .tc := ⟨.hbm, 53, rfl⟩
abbrev main_while0b_call0_v13 : Ref sig .tc := ⟨.hbm, 54, rfl⟩
abbrev main_while0b_call0_cst : Ref sig .tc := ⟨.hbm, 55, rfl⟩
abbrev main_while0b_call0_v14 : Ref sig .tc := ⟨.hbm, 56, rfl⟩
abbrev main_while0b_v22 : Ref sig .tc := ⟨.hbm, 57, rfl⟩
abbrev main_while0b_v23 : Ref sig .tc := ⟨.hbm, 58, rfl⟩
abbrev main_while0b_v24 : Ref sig .tc := ⟨.hbm, 59, rfl⟩
abbrev main_while0b_call1_v0 : Ref sig .tc := ⟨.hbm, 60, rfl⟩
abbrev main_while0b_call1_cst : Ref sig .tc := ⟨.hbm, 61, rfl⟩
abbrev main_while0b_call1_c : Ref sig .tc := ⟨.hbm, 62, rfl⟩
abbrev main_while0b_call1_v1_0 : Ref sig .tc := ⟨.hbm, 63, rfl⟩
abbrev main_while0b_v25 : Ref sig .tc := ⟨.hbm, 64, rfl⟩
abbrev main_while0b_call2_v0 : Ref sig .tc := ⟨.hbm, 65, rfl⟩
abbrev main_while0b_call2_c : Ref sig .tc := ⟨.hbm, 66, rfl⟩
abbrev main_while0b_v26 : Ref sig .tc := ⟨.hbm, 67, rfl⟩
abbrev main_while0b_c_9 : Ref sig .tc := ⟨.hbm, 68, rfl⟩
abbrev main_while0b_v27 : Ref sig .tc := ⟨.hbm, 69, rfl⟩
abbrev main_v20 : Ref sig .tc := ⟨.hbm, 70, rfl⟩

abbrev nD : Nat := 1
abbrev τ : Topo := Topo.v7x

variable {F : FTy → Type} [FloatOps F]

abbrev main_while0_count : Scf.Loop 32 := ⟨0#32, 512#32, 1#32⟩
-- ==== Kernel.lean ====
abbrev S8x2048x3 : Shape := ⟨3, ![8, 2048, 3]⟩
abbrev S8x128x2048 : Shape := ⟨3, ![8, 128, 2048]⟩
abbrev S8x2048x128 : Shape := ⟨3, ![8, 2048, 128]⟩
abbrev S8x2048x131 : Shape := ⟨3, ![8, 2048, 131]⟩
abbrev S_ : Shape := ⟨0, ![]⟩
abbrev S8x2048 : Shape := ⟨2, ![8, 2048]⟩
abbrev S8x1x2048 : Shape := ⟨3, ![8, 1, 2048]⟩
abbrev S8x3x2048 : Shape := ⟨3, ![8, 3, 2048]⟩
abbrev S8x131x2048 : Shape := ⟨3, ![8, 131, 2048]⟩
abbrev S8x512x1 : Shape := ⟨3, ![8, 512, 1]⟩
abbrev S2x131x2048 : Shape := ⟨3, ![2, 131, 2048]⟩
abbrev S2x1x2048 : Shape := ⟨3, ![2, 1, 2048]⟩
abbrev S2x512x1 : Shape := ⟨3, ![2, 512, 1]⟩
abbrev S2x2048x2048 : Shape := ⟨3, ![2, 2048, 2048]⟩
abbrev S1x131x2048 : Shape := ⟨3, ![1, 131, 2048]⟩
abbrev S131x2048 : Shape := ⟨2, ![131, 2048]⟩
abbrev S2048x2048 : Shape := ⟨2, ![2048, 2048]⟩
abbrev S1x1x2048 : Shape := ⟨3, ![1, 1, 2048]⟩
abbrev S1x2048 : Shape := ⟨2, ![1, 2048]⟩
abbrev S2048x1 : Shape := ⟨2, ![2048, 1]⟩
abbrev S1x2048x2048 : Shape := ⟨3, ![1, 2048, 2048]⟩
abbrev S16x1 : Shape := ⟨2, ![16, 1]⟩
abbrev S16x128 : Shape := ⟨2, ![16, 128]⟩
abbrev S1x1 : Shape := ⟨2, ![1, 1]⟩
abbrev S1x1x1 : Shape := ⟨3, ![1, 1, 1]⟩
abbrev S16 : Shape := ⟨1, ![16]⟩
abbrev S8x1 : Shape := ⟨2, ![8, 1]⟩
abbrev S4x1 : Shape := ⟨2, ![4, 1]⟩
abbrev S2x1 : Shape := ⟨2, ![2, 1]⟩
abbrev S1 : Shape := ⟨1, ![1]⟩
abbrev S8x512 : Shape := ⟨2, ![8, 512]⟩

abbrev nBuf : Space → Nat
  | .hbm => 12
  | .vmem => 7
  | .smem => 0
  | _ => 0

abbrev bufTy : (tb : Table) → Fin (tcTables nBuf tb) → BufTy
  | .hbm, ⟨0, _⟩ => ⟨S8x2048x3, .f32⟩
  | .hbm, ⟨1, _⟩ => ⟨S8x128x2048, .f32⟩
  | .hbm, ⟨2, _⟩ => ⟨S8x2048x128, .f32⟩
  | .hbm, ⟨3, _⟩ => ⟨S8x2048x131, .f32⟩
  | .hbm, ⟨4, _⟩ => ⟨S8x2048x131, .f32⟩
  | .hbm, ⟨5, _⟩ => ⟨S_, .f32⟩
  | .hbm, ⟨6, _⟩ => ⟨S8x2048, .f32⟩
  | .hbm, ⟨7, _⟩ => ⟨S8x1x2048, .f32⟩
  | .hbm, ⟨8, _⟩ => ⟨S8x3x2048, .f32⟩
  | .hbm, ⟨9, _⟩ => ⟨S8x131x2048, .f32⟩
  | .hbm, ⟨10, _⟩ => ⟨S8x512x1, .i32⟩
  | .hbm, ⟨11, _⟩ => ⟨S8x512, .i32⟩
  | .local _ .vmem, ⟨0, _⟩ => ⟨S2x131x2048, .f32⟩
  | .local _ .vmem, ⟨1, _⟩ => ⟨S2x131x2048, .f32⟩
  | .local _ .vmem, ⟨2, _⟩ => ⟨S2x1x2048, .f32⟩
  | .local _ .vmem, ⟨3, _⟩ => ⟨S2x1x2048, .f32⟩
  | .local _ .vmem, ⟨4, _⟩ => ⟨S2x512x1, .i32⟩
  | .local _ .vmem, ⟨5, _⟩ => ⟨S2x512x1, .i32⟩
  | .local _ .vmem, ⟨6, _⟩ => ⟨S2x2048x2048, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_33 : BitVec 32 := 0#32
  let c512_i32 : BitVec 32 := 512#32
  let v40 : BitVec 32 := Scalar.addi c0_i32_33 c512_i32
  let c1_i32 : BitVec 32 := 1#32
  ⟨c0_i32_33, v40, c1_i32⟩
def k0_off1 (arg7 : BitVec 32) : Fin 3 → Nat :=
  let c0_35 : Index := 0#32
  let v42 : Index := Scalar.indexCast arg7
  let c0_36 : Index := 0#32
  ![0, v42.toNat, 0]

def k0_chk1 (arg7 : BitVec 32) : Prop :=
  (∀ a, (k0_off1 arg7) a + S1x1x2048.size a ≤ S2x2048x2048.size a)
theorem k0_off1_inb : ∀ (arg7 : BitVec 32) (k0_hw1 : k0_chk1 arg7), ∀ a, (k0_off1 arg7) a + S1x1x2048.size a ≤ S2x2048x2048.size a := fun arg7 k0_hw1 => k0_hw1

def k0_off2 (k0_t1 : Fin k0_t1_loop.trips) : Fin 3 → Nat :=
  let c0_37 : Index := 0#32
  let c0_i32_33 : BitVec 32 := 0#32
  let c1_i32 : BitVec 32 := 1#32
  let arg5 : BitVec 32 := Scf.iv c0_i32_33 c1_i32 k0_t1
  let v48 : Index := Scalar.indexCast arg5
  let c0_38 : Index := 0#32
  ![0, v48.toNat, 0]
def k0_off3 (arg9 : BitVec 32) : Fin 3 → Nat :=
  let c1_42 : Index := 1#32
  let v92 : Index := Scalar.indexCast arg9
  let c0_43 : Index := 0#32
  ![1, v92.toNat, 0]

def k0_chk2 (arg9 : BitVec 32) : Prop :=
  (∀ a, (k0_off3 arg9) a + S1x1x2048.size a ≤ S2x2048x2048.size a)
theorem k0_off3_inb : ∀ (arg9 : BitVec 32) (k0_hw2 : k0_chk2 arg9), ∀ a, (k0_off3 arg9) a + S1x1x2048.size a ≤ S2x2048x2048.size a := fun arg9 k0_hw2 => k0_hw2

def k0_off4 (k0_t1 : Fin k0_t1_loop.trips) : Fin 3 → Nat :=
  let c1_44 : Index := 1#32
  let c0_i32_33 : BitVec 32 := 0#32
  let c1_i32 : BitVec 32 := 1#32
  let arg5 : BitVec 32 := Scf.iv c0_i32_33 c1_i32 k0_t1
  let v98 : Index := Scalar.indexCast arg5
  let c0_45 : Index := 0#32
  ![1, v98.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x131x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Proof.KernelIdealTrip.lean ====
/-
  One trip of the kernel's 512-trip loop, at any value instance.
  The trip reads one row of the distance matrix of each of the block's two batches, takes it into the running minimum,
  records the current point of each batch in the output and chooses the next.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Pipeline.FrameBody
public import Idealize.ShloMosaic.Lib.Tactic
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The step on the carried values -/

/-- The words clipped to `0 … 2047`, the larger end taken last. -/
def clipW (w : BitVec 32) : BitVec 32 := Scalar.minsi 2047#32 (Scalar.maxsi 0#32 w)

/-- A clipped word is a point's number. -/
theorem clipW_lt (w : BitVec 32) : (clipW w).toNat < 2048 := by
  unfold clipW Scalar.minsi Scalar.maxsi IntOp.minsi IntOp.maxsi
  have h0 : (0#32 : BitVec 32).toInt = 0 := by decide
  have h1 : (2047#32 : BitVec 32).toInt = 2047 := by decide
  have hw := w.toInt_eq_toNat_cond
  have hl := w.isLt
  simp only [BitVec.slt, decide_eq_true_eq, h0, h1]
  split <;> split <;> simp_all <;> omega

/-- A word below 2048 is a clipped word already. -/
theorem clipW_of_lt (w : BitVec 32) (h : w.toNat < 2048) : clipW w = w := by
  unfold clipW Scalar.minsi Scalar.maxsi IntOp.minsi IntOp.maxsi
  have h0 : (0#32 : BitVec 32).toInt = 0 := by decide
  have h1 : (2047#32 : BitVec 32).toInt = 2047 := by decide
  have hw := w.toInt_eq_toNat_cond
  have hl := w.isLt
  simp only [BitVec.slt, decide_eq_true_eq, h0, h1]
  have e : ¬ w.toInt < 0 := by omega
  rw [if_neg e, if_neg (by omega)]

/-- The side condition of the first batch's row holds of a point's number. -/
theorem chk1_of_lt (w : BitVec 32) (h : w.toNat < 2048) : k0_chk1 w := by
  unfold k0_chk1 k0_off1
  intro a
  fin_cases a
  · show 0 + 1 ≤ 2
    decide
  · show w.toNat + 1 ≤ 2048
    omega
  · show 0 + 2048 ≤ 2048
    decide

/-- The side condition of the second batch's row holds of a point's number. -/
theorem chk2_of_lt (w : BitVec 32) (h : w.toNat < 2048) : k0_chk2 w := by
  unfold k0_chk2 k0_off3
  intro a
  fin_cases a
  · show 1 + 1 ≤ 2
    decide
  · show w.toNat + 1 ≤ 2048
    omega
  · show 0 + 2048 ≤ 2048
    decide

/-- What the loop carries: the first batch's running minimum and current point, then the second batch's. -/
abbrev Carry (F : FTy → Type) [FloatOps F] : Type := FVec F S16x128 .f32 × BitVec 32 × FVec F S16x128 .f32 × BitVec 32

/-- Row `w` of the first batch's distance matrix (anything where `w` is no point's number). -/
def row0 (D : S2x2048x2048.Idx → Elt F .f32) (w : BitVec 32) : Vec F S1x1x2048 .f32 :=
  if h : k0_chk1 w then View.ld D (Rect.unit (s := S2x2048x2048) (k0_off1 w) S1x1x2048.size (k0_off1_inb w h))
  else fun _ => D (fun a => ⟨0, by revert a; decide⟩)

/-- Row `w` of the second batch's distance matrix (anything where `w` is no point's number). -/
def row1 (D : S2x2048x2048.Idx → Elt F .f32) (w : BitVec 32) : Vec F S1x1x2048 .f32 :=
  if h : k0_chk2 w then View.ld D (Rect.unit (s := S2x2048x2048) (k0_off3 w) S1x1x2048.size (k0_off3_inb w h))
  else fun _ => D (fun a => ⟨0, by revert a; decide⟩)

/-- The numbers of the sixteen rows a batch's minima are laid out in. -/
abbrev rowNo : IVec S16x1 32 := iota .tc S16x1 32 [0] iota_S16x1_d0_w32

/-- The carried values after one trip. -/
def trip (D : S2x2048x2048.Idx → Elt F .f32) (s : Carry F) : Carry F :=
  (k0_pay3 s.1 (row0 D s.2.1),
   clipW (extractAt ![0, 0, 0] (k0_pay5 rowNo s.1 (row0 D s.2.1)) inpos_S1x1x1_p0_0_0),
   k0_pay6 s.2.2.1 (row1 D s.2.2.2),
   clipW (extractAt ![0, 0, 0] (k0_pay8 rowNo s.2.2.1 (row1 D s.2.2.2)) inpos_S1x1x1_p0_0_0))

/-- The carried values before trip `k`. -/
def st (D : S2x2048x2048.Idx → Elt F .f32) : ℕ → Carry F
  | 0 => (k0_pay2, 0#32, k0_pay2, 0#32)
  | k + 1 => trip D (st D k)

/-- Both carried points are points' numbers throughout. -/
theorem st_lt (D : S2x2048x2048.Idx → Elt F .f32) (k : ℕ) :
    (st D k).2.1.toNat < 2048 ∧ (st D k).2.2.2.toNat < 2048 := by
  cases k with
  | zero => exact ⟨by show (0#32 : BitVec 32).toNat < 2048; decide, by show (0#32 : BitVec 32).toNat < 2048; decide⟩
  | succ k => exact ⟨clipW_lt _, clipW_lt _⟩

/-- What the output holds before trip `k`: the first `k` recorded points of each batch. -/
def Recorded (D : S2x2048x2048.Idx → Elt F .f32) (k : ℕ) (X : S2x512x1.Idx → Elt F .i32) : Prop :=
  ∀ y : S2x512x1.Idx, (y 1).val < k →
    X y = if (y 0).val = 0 then (st D (y 1).val).2.1 else (st D (y 1).val).2.2.2

/-- Recording the current points of both batches at trip `k` extends the record by one. -/
theorem recorded_succ (D : S2x2048x2048.Idx → Elt F .f32) {sg : RefSig} {κ : Kind} {sp : Space} (v : View sg κ sp S2x512x1 .i32)
    (f : v.ty.Contents (Elt F)) (k : Fin k0_t1_loop.trips) (h : Recorded D k.val (v.read (Elt F) f)) :
    Recorded D (k.val + 1) (v.read (Elt F) (v.writes (Elt F) f
      [⟨Rect.unit (k0_off4 k) S1x1x1.size (k0_off4_inb k), k0_pay7 (st D k.val).2.2.2⟩,
       ⟨Rect.unit (k0_off2 k) S1x1x1.size (k0_off2_inb k), k0_pay4 (st D k.val).2.1⟩])) := by
  intro y hy
  have y0 : (y 0).val < 2 := (y 0).isLt
  have y2 : (y 2).val < 1 := (y 2).isLt
  by_cases hk : (y 1).val = k.val
  · by_cases hb : (y 0).val = 0
    · rw [View.read_writes_cons_unit_of_not_mem v f _ _ _ y (k0_off4_eq k) (0 : Fin 3) (.inl (by rw [hb]; exact Nat.one_pos)),
        View.read_writes_cons_unit_of_mem v f _ _ _ y (fun a => ⟨0, by fin_cases a <;> exact Nat.one_pos⟩) (k0_off2_eq k)
          (fun a => by
            fin_cases a
            · exact hb
            · exact hk
            · show (y 2).val = 0 + 0
              omega), if_pos hb, hk]
      rfl
    · rw [View.read_writes_cons_unit_of_mem v f _ _ _ y (fun a => ⟨0, by fin_cases a <;> exact Nat.one_pos⟩) (k0_off4_eq k)
          (fun a => by
            fin_cases a
            · show (y 0).val = 1 + 0
              omega
            · exact hk
            · show (y 2).val = 0 + 0
              omega), if_neg hb, hk]
      rfl
  · have hlt : (y 1).val < k.val := by omega
    rw [View.read_writes_cons_unit_of_not_mem v f _ _ _ y (k0_off4_eq k) (1 : Fin 3) (.inl hlt),
      View.read_writes_cons_unit_of_not_mem v f _ _ _ y (k0_off2_eq k) (1 : Fin 3) (.inl hlt)]
    exact h y hlt

set_option warn.classDefReducibility false in
/-- The loop's invariant: the distance matrix stays, the output holds the points recorded so far, and the carried values
    are the iterate. -/
@[sl_loop] def tripInv (c : Dev nD) (i : grid0.Coords) (arg1 : Memref sig .tc .vmem S2x131x2048 .f32) (harg1 : arg1.IsWhole)
    (arg2 : Memref sig .tc .vmem S2x1x2048 .f32) (harg2 : arg2.IsWhole) (arg3 : Memref sig .tc .vmem S2x512x1 .i32) (harg3 : arg3.IsWhole)
    (arg4 : Memref sig .tc .vmem S2x2048x2048 .f32) (harg4 : arg4.IsWhole)
    (g4 : Buf (Elt F) (arg4.view.loc (c : Thread nD τ))) :
    LoopInvTy_k0_t1 (F := F) Unit ℕ (UR sig nD τ) ℕ Variants.none c none Set.univ i arg1 harg1 arg2 harg2 arg3 harg3 arg4 harg4 rowNo
      (k0_pay2 (F := F), 0#32, k0_pay2 (F := F), 0#32) where
  inv k acc := iprop((arg4.view.loc (c : Thread nD τ) ↦[arg4.view.set]{fullShare} g4)
    ∗ (∃ f3, (arg3.view.loc (c : Thread nD τ) ↦[arg3.view.set]{fullShare} f3) ∗ ⌜Recorded (arg4.view.read (Elt F) g4) k (arg3.view.read (Elt F) f3)⌝)
    ∗ ⌜acc = st (arg4.view.read (Elt F) g4) k⌝)
  step k acc := by
    unfold k0_t1_body
    iintro ⟨H4, ⟨%f3, H3, %hr⟩, %hacc⟩
    subst hacc
    have hl := st_lt (arg4.view.read (Elt F) g4) k
    generalize hs : st (arg4.view.read (Elt F) g4) k.val = s at hl ⊢
    obtain ⟨d0, w0, d1, w1⟩ := s
    have h1 : k0_chk1 w0 := chk1_of_lt _ hl.1
    have h2 : k0_chk2 w1 := chk2_of_lt _ hl.2
    sl_exec
    sl_step
    isplitl [H4]; · iexact H4
    isplitl [H3]
    · iexists _
      isplitl [H3]; · iexact H3
      ipureintro
      have := recorded_succ _ arg3.view f3 k hr
      rw [hs] at this
      exact this
    ipureintro
    show _ = trip _ (st _ k.val)
    rw [hs]
    unfold trip row0 row1
    simp only [dif_pos h1, dif_pos h2]
    rfl

end Cert.KernelIdeal.Hand

end
-- ==== Proof.KernelIdealBody.lean ====
/-
  One block of the kernel's grid, at any value instance: the two distance matrices are formed in the scratch, the loop runs
  on them, and the output block is left holding the 512 chosen points of each of the two batches.
-/
module

public import proofs.«01_k».proof.Proof.KernelIdealTrip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-! ## What the block computes -/

/-- Batch `0` or `1` of the coordinates' block. -/
abbrev xs0 (X : Vec F S2x131x2048 .f32) : Vec F S1x131x2048 .f32 :=
  View.ld X (Rect.unit (s := S2x131x2048) ![0, 0, 0] S1x131x2048.size inb_S2x131x2048_S1x131x2048_0_0_0)
abbrev xs1 (X : Vec F S2x131x2048 .f32) : Vec F S1x131x2048 .f32 :=
  View.ld X (Rect.unit (s := S2x131x2048) ![1, 0, 0] S1x131x2048.size inb_S2x131x2048_S1x131x2048_1_0_0)
/-- Batch `0` or `1` of the squared norms' block. -/
abbrev ns0 (N : Vec F S2x1x2048 .f32) : Vec F S1x1x2048 .f32 :=
  View.ld N (Rect.unit (s := S2x1x2048) ![0, 0, 0] S1x1x2048.size inb_S2x1x2048_S1x1x2048_0_0_0)
abbrev ns1 (N : Vec F S2x1x2048 .f32) : Vec F S1x1x2048 .f32 :=
  View.ld N (Rect.unit (s := S2x1x2048) ![1, 0, 0] S1x1x2048.size inb_S2x1x2048_S1x1x2048_1_0_0)

/-- The two matrices as the two stores leave them, the second batch's stored last. -/
abbrev slabs (X : Vec F S2x131x2048 .f32) (N : Vec F S2x1x2048 .f32) : List (View.Piece (Elt F) S2x2048x2048 .f32) :=
  [⟨Rect.unit (s := S2x2048x2048) ![1, 0, 0] S1x2048x2048.size inb_S2x2048x2048_S1x2048x2048_1_0_0,
      k0_pay1 (k0_pay10 (xs1 X) (xs1 X)) (k0_pay11 (ns1 N)) (ns1 N)⟩,
   ⟨Rect.unit (s := S2x2048x2048) ![0, 0, 0] S1x2048x2048.size inb_S2x2048x2048_S1x2048x2048_0_0_0,
      k0_pay9 (xs0 X) (xs0 X) (ns0 N) (ns0 N)⟩]

/-- The distance matrices of the block's two batches. -/
def dist (X : Vec F S2x131x2048 .f32) (N : Vec F S2x1x2048 .f32) : S2x2048x2048.Idx → Elt F .f32 :=
  View.canon (slabs X N)

/-- The two stores fill the scratch. -/
theorem slabs_cover (X : Vec F S2x131x2048 .f32) (N : Vec F S2x1x2048 .f32) (y : S2x2048x2048.Idx) :
    ∃ p ∈ slabs X N, y ∈ p.1.set := by
  have y0 : (y 0).val < 2 := (y 0).isLt
  have y1 : (y 1).val < 2048 := (y 1).isLt
  have y2 : (y 2).val < 2048 := (y 2).isLt
  by_cases h : (y 0).val = 0
  · refine ⟨_, List.mem_cons_of_mem _ (List.mem_singleton.2 rfl), ?_⟩
    rw [Rect.mem_set_unit]
    intro a
    fin_cases a
    · show 0 ≤ (y 0).val ∧ (y 0).val < 0 + 1
      omega
    · show 0 ≤ (y 1).val ∧ (y 1).val < 0 + 2048
      omega
    · show 0 ≤ (y 2).val ∧ (y 2).val < 0 + 2048
      omega
  · refine ⟨_, List.mem_cons_self, ?_⟩
    rw [Rect.mem_set_unit]
    intro a
    fin_cases a
    · show 1 ≤ (y 0).val ∧ (y 0).val < 1 + 1
      omega
    · show 0 ≤ (y 1).val ∧ (y 1).val < 0 + 2048
      omega
    · show 0 ≤ (y 2).val ∧ (y 2).val < 0 + 2048
      omega

/-- The points the loop records on the matrices `D`: position `(b, k, 0)` holds batch `b`'s point before trip `k`. -/
def picks (D : S2x2048x2048.Idx → Elt F .f32) : Vec F S2x512x1 .i32 := fun y =>
  if (y 0).val = 0 then (st D (y 1).val).2.1 else (st D (y 1).val).2.2.2

/-- A full record is the picks. -/
theorem eq_picks (D : S2x2048x2048.Idx → Elt F .f32) (X : S2x512x1.Idx → Elt F .i32) (h : Recorded D 512 X) :
    X = picks D := funext fun y => h y (y 1).isLt

/-! ## The body, run once -/

/-- From the two input blocks, the output block and the scratch at anything, the body runs to its return; the inputs stay
    and the output block holds the picks. -/
theorem kernelRun (c : Dev nD) (i : grid0.Coords) (arg1 : Memref sig .tc .vmem S2x131x2048 .f32) (harg1 : arg1.IsWhole)
    (arg2 : Memref sig .tc .vmem S2x1x2048 .f32) (harg2 : arg2.IsWhole) (arg3 : Memref sig .tc .vmem S2x512x1 .i32) (harg3 : arg3.IsWhole)
    (arg4 : Memref sig .tc .vmem S2x2048x2048 .f32) (harg4 : arg4.IsWhole)
    (X : Vec F S2x131x2048 .f32) (N : Vec F S2x1x2048 .f32) (K : PUnit → sProp 𝕄) :
    iprop(owns (c : Thread nD τ) arg1 fullShare X ∗ owns (c : Thread nD τ) arg2 fullShare N
        ∗ (∃ d, owns (c : Thread nD τ) arg3 fullShare d) ∗ (∃ d, owns (c : Thread nD τ) arg4 fullShare d)
        ∗ (iprop(owns (c : Thread nD τ) arg1 fullShare X ∗ owns (c : Thread nD τ) arg2 fullShare N
              ∗ owns (c : Thread nD τ) arg3 fullShare (picks (dist X N)) ∗ (∃ d, owns (c : Thread nD τ) arg4 fullShare d)) -∗ K ⟨⟩))
      ⊢ wp frame (wpE (defs₀ (F := F)) Variants.none c none) Set.univ
          (cc0__fps_kernel_clipped i arg1 harg1 arg2 harg2 arg3 harg3 arg4 harg4) K := by
  simp only [cc0__fps_kernel_clipped_eq_skeleton]; unfold cc0__fps_kernel_clipped_skel
  unfold owns
  iintro ⟨⟨%f1, %hf1, H1⟩, ⟨%f2, %hf2, H2⟩, ⟨%d3, %f3, -, H3⟩, ⟨%d4, %f4, -, H4⟩, Hk⟩
  subst hf1 hf2
  have h0 : Recorded (arg4.view.read (Elt F) (arg4.view.writes (Elt F) arg4.view.junk
      (slabs (arg1.view.read (Elt F) f1) (arg2.view.read (Elt F) f2)))) 0 (arg3.view.read (Elt F) f3) :=
    fun y hy => absurd hy (Nat.not_lt_zero _)
  sl_exec
  have hD : arg4.view.read (Elt F) (arg4.view.writes (Elt F) arg4.view.junk
      (slabs (arg1.view.read (Elt F) f1) (arg2.view.read (Elt F) f2)))
        = dist (arg1.view.read (Elt F) f1) (arg2.view.read (Elt F) f2) :=
    View.read_writes_eq_canon _ _ _ (slabs_cover _ _)
  have hP := eq_picks _ _ (hD ▸ hL2)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; exact hP
  iexists _, _; isplitr; swap; · iexact H4
  ipureintro; rfl

end Cert.KernelIdeal.Hand

end
-- ==== Proof.KernelIdealRun.lean ====
/-
  The kernel's launch, at any value instance: the pipeline over the four blocks, and the whole program.
  Its output array holds, block by block, the picks on the distance matrices of the block's two batches.
-/
module

public import proofs.«01_k».proof.Proof.KernelIdealBody
public import Idealize.ShloMosaic.Adequacy
public import Idealize.ShloMosaic.Init

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The proof data and the body's obligation -/

/-- What the body leaves in the output's block at point `t`: the picks on the distances of the blocks it was handed. -/
def outBlk (c : Dev nD) (t : Fin cfg0.N) : Vec F S2x512x1 .i32 := picks (dist (iblk m c 0 t) (iblk m c 1 t))

/-- The proof data on core `c`: the arrays as the region finds them; the two inputs' blocks left in place, the output's
    block at the picks; the scratch at anything between points; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = outBlk m c t := by dsimp only [dats]

/-- What the body finds in the two inputs' staging buffers: their blocks. -/
theorem before_w0 (c : Dev nD) (t : Fin cfg0.N) (d) : (dats m 0 c).before 0 t d = iblk m c 0 t :=
  before0_0_of m (dats m 0 c) (A_eq m c 0) (after_w0 m c) t d
theorem before_w1 (c : Dev nD) (t : Fin cfg0.N) (d) : (dats m 0 c).before 1 t d = iblk m c 1 t :=
  before0_1_of m (dats m 0 c) (A_eq m c 1) (after_w1 m c) t d

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The scratch at any contents, spelled as what the body is handed. -/
theorem scratch_eq (c : Dev nD) :
    (Pipeline.ΦA spec0 c : sProp 𝕄)
      = iprop((∃ d, owns (c : Thread nD τ) (Memref.whole cc0_scratch0 : Memref sig .tc .vmem S2x2048x2048 .f32) fullShare d) ∗ (∃ r, prngReg c r)) := by
  unfold Pipeline.ΦA
  rw [scopedRest0_eq]; simp only [owns_whole]; try rfl

set_option backward.isDefEq.respectTransparency.types false in
/-- The body's obligation at every point. -/
theorem body_obligation (c : Dev nD) : BodyObligation (dats (F := F) m 0 c) (defs₀ (F := F)) Variants.none () Set.univ := fun t => by
  rw [bigSep_W0, bigSep_W0, defs₀_row]
  dsimp only
  simp only [before_w0, before_w1, after_w0, after_w1, after_w2]
  rw [show (dats m 0 c).Φ t.castSucc = Pipeline.ΦA spec0 c from rfl, show (dats m 0 c).Φ t.succ = Pipeline.ΦA spec0 c from rfl, scratch_eq]
  rw [show (dats m 0 c).owesAt () t.succ = (dats m 0 c).owesAt () t.castSucc from rfl]
  iintro ⟨⟨HS, Hg⟩, HO, ⟨%d0, H0⟩, ⟨%d1, H1⟩, ⟨%d2, H2⟩⟩
  iapply (kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (Memref.whole cc0_scratch0) (Memref.isWhole_whole _) (iblk m c 0 t) (iblk m c 1 t) _)
  isplitl [H0]; · iexact H0
  isplitl [H1]; · iexact H1
  isplitl [H2]; · iexists _; iexact H2
  isplitl [HS]; · iexact HS
  iintro ⟨H0, H1, H2, HS⟩
  isplitl [HS Hg]
  · isplitl [HS]; · iexact HS
    iexact Hg
  isplitl [HO]; · iexact HO
  isplitl [H0]; · iexact H0
  isplitl [H1]; · iexact H1
  iexact H2

/-! ## The launch -/

set_option backward.isDefEq.respectTransparency.types false in
/-- From any memory with zero counters, every weakly fair execution terminates; every final state has the pipeline's arrays
    at the proof data's, every other unscoped buffer as the lines after the region leave it, and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (p := (0 : Fin 1)) (kit := launch0) (cfgs := cfgs) (dats := dats m) (defs₀ := defs₀) (𝒱₀ := Variants.none) (m := m) (g := ρ) (main := main)
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)
    (Q' := fun r => Pipeline.FramePost cfgs (dats m) 0 (Pipeline.afterTail₀ cfgs (dats m) 0 (V0 m) [hostOps1]) r ∧ r.2.sem = fun _ => 0) (hQ' := fun _ h => h)

/-- The arguments end as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c)⟩, h.2⟩)
    (run_main m ρ)

end Cert.KernelIdeal.Hand

end
-- ==== Proof.ReferenceOps.lean ====
/-
  The reference as a program of host operations: @main and the loop's two regions as lists of operations, at any
  value instance.
-/
module

public import proofs.«01_k».proof.ReferenceIdeal
public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent

@[expose] public section

set_option maxRecDepth 100000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The operations -/

/-- The operations of everything before the loop: the distances, the first state, and its copies into the carried buffers. -/
abbrev pre : List (HloOp τ sig (Elt F)) :=
  [ StableHlo.unary main_arg1 main_v0 ((transpose S8x2048x128 [0, 2, 1] · transposes_S8x128x2048_S8x2048x128_0_2_1) : (⟨S8x128x2048, .f32⟩ : BufTy).Contents (Elt F) → (⟨S8x2048x128, .f32⟩ : BufTy).Contents (Elt F)),
    StableHlo.binary main_arg0 main_v0 main_v1 ((fun a b => concatenate S8x2048x131 2 [⟨S8x2048x3, a⟩, ⟨S8x2048x128, b⟩] concatenates_S8x2048x3_S8x2048x128_S8x2048x131_d2) : (⟨S8x2048x3, .f32⟩ : BufTy).Contents (Elt F) → (⟨S8x2048x128, .f32⟩ : BufTy).Contents (Elt F) → (⟨S8x2048x131, .f32⟩ : BufTy).Contents (Elt F)),
    StableHlo.binary main_v1 main_v1 main_v2 (mulf : (⟨S8x2048x131, .f32⟩ : BufTy).Contents (Elt F) → (⟨S8x2048x131, .f32⟩ : BufTy).Contents (Elt F) → (⟨S8x2048x131, .f32⟩ : BufTy).Contents (Elt F)),
    StableHlo.nullary main_cst (constant S_ .f32 0x00000000#32),
    StableHlo.binary main_v2 main_cst main_v3 ((fun x v => Host.reduceAdd x v reducesTo_S8x2048x131_S8x2048_d2 h_S_) : (⟨S8x2048x131, .f32⟩ : BufTy).Contents (Elt F) → (⟨S_, .f32⟩ : BufTy).Contents (Elt F) → (⟨S8x2048, .f32⟩ : BufTy).Contents (Elt F)),
    StableHlo.unary main_v3 main_v4 (broadcastInDim S8x2048x1 ![0, 1] bcast_S8x2048_S8x2048x1_0_1 : (⟨S8x2048, .f32⟩ : BufTy).Contents (Elt F) → (⟨S8x2048x1, .f32⟩ : BufTy).Contents (Elt F)),
    StableHlo.binary main_v1 main_v1 main_v5 (mulf : (⟨S8x2048x131, .f32⟩ : BufTy).Contents (Elt F) → (⟨S8x2048x131, .f32⟩ : BufTy).Contents (Elt F) → (⟨S8x2048x131, .f32⟩ : BufTy).Contents (Elt F)),
    StableHlo.nullary main_cst_0 (constant S_ .f32 0x00000000#32),
    StableHlo.binary main_v5 main_cst_0 main_v6 ((fun x v => Host.reduceAdd x v reducesTo_S8x2048x131_S8x2048_d2 h_S_) : (⟨S8x2048x131, .f32⟩ : BufTy).Contents (Elt F) → (⟨S_, .f32⟩ : BufTy).Contents (Elt F) → (⟨S8x2048, .f32⟩ : BufTy).Contents (Elt F)),
    StableHlo.unary main_v6 main_v7 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v1 main_v8 ((transpose S8x131x2048 [0, 2, 1] · transposes_S8x2048x131_S8x131x2048_0_2_1) : (⟨S8x2048x131, .f32⟩ : BufTy).Contents (Elt F) → (⟨S8x131x2048, .f32⟩ : BufTy).Contents (Elt F)),
    StableHlo.binary main_v1 main_v8 main_v9 ((fun l r => Host.dotGeneral dot_S8x2048x131_S8x131x2048_S8x2048x2048_2_1_1_2_0_0 none l r) : (⟨S8x2048x131, .f32⟩ : BufTy).Contents (Elt F) → (⟨S8x131x2048, .f32⟩ : BufTy).Contents (Elt F) → (⟨S8x2048x2048, .f32⟩ : BufTy).Contents (Elt F)),
    StableHlo.unary main_v4 main_v10 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    StableHlo.unary main_v7 main_v11 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    StableHlo.binary main_v10 main_v11 main_v12 (addf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_1 (constant S_ .f32 0x40000000#32),
    StableHlo.unary main_cst_1 main_v13 (broadcastInDim S8x2048x2048 ![] bcast_S_S8x2048x2048 : (⟨S_, .f32⟩ : BufTy).Contents (Elt F) → (⟨S8x2048x2048, .f32⟩ : BufTy).Contents (Elt F)),
    StableHlo.binary main_v13 main_v9 main_v14 (mulf : (⟨S8x2048x2048, .f32⟩ : BufTy).Contents (Elt F) → (⟨S8x2048x2048, .f32⟩ : BufTy).Contents (Elt F) → (⟨S8x2048x2048, .f32⟩ : BufTy).Contents (Elt F)),
    StableHlo.binary main_v12 main_v14 main_v15 (subf : (⟨S8x2048x2048, .f32⟩ : BufTy).Contents (Elt F) → (⟨S8x2048x2048, .f32⟩ : BufTy).Contents (Elt F) → (⟨S8x2048x2048, .f32⟩ : BufTy).Contents (Elt F)),
    StableHlo.nullary main_cst_2 (constant S_ .f32 0x501502F9#32),
    StableHlo.unary main_cst_2 main_v16 (broadcastInDim S8x2048 ![] bcast_S_S8x2048 : (⟨S_, .f32⟩ : BufTy).Contents (Elt F) → (⟨S8x2048, .f32⟩ : BufTy).Contents (Elt F)),
    StableHlo.nullary main_c (constantI S_ 32 0#32),
    StableHlo.unary main_c main_v17 (broadcastInDim S8 ![] bcast_S_S8 : (⟨S_, .i32⟩ : BufTy).Contents (Elt F) → (⟨S8, .i32⟩ : BufTy).Contents (Elt F)),
    StableHlo.nullary main_c_3 (constantI S_ 32 0#32),
    StableHlo.unary main_c_3 main_v18 (broadcastInDim S512x8 ![] bcast_S_S512x8 : (⟨S_, .i32⟩ : BufTy).Contents (Elt F) → (⟨S512x8, .i32⟩ : BufTy).Contents (Elt F)),
    StableHlo.nullary main_c_4 (constantI S_ 32 0#32),
    StableHlo.unary main_v15 main_v19_0 id,
    StableHlo.unary main_c_4 main_v19_1 id,
    StableHlo.unary main_v16 main_v19_2 id,
    StableHlo.unary main_v17 main_v19_3 id,
    StableHlo.unary main_v18 main_v19_4 id ]
/-- They touch buffers of the TensorCore only. -/
theorem pre_sub : (pre : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- None makes a buffer. -/
theorem pre_fresh : (pre : List (HloOp τ sig (Elt F))).Forall fun op => op.fresh = ∅ :=
  StableHlo.forall_fresh_of_map rfl
/-- The buffers they write. -/
abbrev pre_W : List (Ref sig .tc) := [main_v0, main_v1, main_v2, main_cst, main_v3, main_v4, main_v5, main_cst_0, main_v6, main_v7, main_v8, main_v9, main_v10, main_v11, main_v12, main_cst_1, main_v13, main_v14, main_v15, main_cst_2, main_v16, main_c, main_v17, main_c_3, main_v18, main_c_4, main_v19_0, main_v19_1, main_v19_2, main_v19_3, main_v19_4]
theorem pre_writes : (pre : List (HloOp τ sig (Elt F))).Forall fun op => op.writes ⊆ (pre_W.map (Proc.devRef (τ := τ) .tc)).toFinset :=
  StableHlo.forall_writes_sub_of_map rfl

/-- The operations of the current points as start indices. -/
abbrev bodyA : List (HloOp τ sig (Elt F)) :=
  [ StableHlo.unary main_v19_3 main_while0b_v21 (broadcastInDim S8x1x1 ![0] bcast_S8_S8x1x1_0 : (⟨S8, .i32⟩ : BufTy).Contents (Elt F) → (⟨S8x1x1, .i32⟩ : BufTy).Contents (Elt F)) ]
/-- They touch buffers of the TensorCore only. -/
theorem bodyA_sub : (bodyA : List (HloOp τ sig (Elt F))).Forall fun op => op.bufs ⊆ StableHlo.tcRefs τ sig :=
  StableHlo.unary_bufs_sub ..
/-- None makes a buffer. -/
theorem bodyA_fresh : (bodyA : List (HloOp τ sig (Elt F))).Forall fun op => op.fresh = ∅ :=
  StableHlo.forall_fresh_of_map rfl
/-- The buffers they write. -/
abbrev bodyA_W : List (Ref sig .tc) := [main_while0b_v21]
theorem bodyA_writes : (bodyA : List (HloOp τ sig (Elt F))).Forall fun op => op.writes ⊆ (bodyA_W.map (Proc.devRef (τ := τ) .tc)).toFinset :=
  StableHlo.forall_writes_sub_of_map rfl

/-- The operations of the row of the distances at the current point. -/
abbrev bodyB : List (HloOp τ sig (Elt F)) :=
  [ StableHlo.nullary main_while0b_call0_c (constantI S_ 32 0#32),
    StableHlo.unary main_while0b_call0_c main_while0b_call0_v0 (broadcastInDim S8x1x1 ![] bcast_S_S8x1x1 : (⟨S_, .i32⟩ : BufTy).Contents (Elt F) → (⟨S8x1x1, .i32⟩ : BufTy).Contents (Elt F)),
    StableHlo.binary main_while0b_v21 main_while0b_call0_v0 main_while0b_call0_v1 (cmpi .slt : (⟨S8x1x1, .i32⟩ : BufTy).Contents (Elt F) → (⟨S8x1x1, .i32⟩ : BufTy).Contents (Elt F) → (⟨S8x1x1, .i1⟩ : BufTy).Contents (Elt F)),
    StableHlo.nullary main_while0b_call0_c_0 (constantI S_ 32 2048#32),
    StableHlo.unary main_while0b_call0_c_0 main_while0b_call0_v2 (broadcastInDim S8x1x1 ![] bcast_S_S8x1x1 : (⟨S_, .i32⟩ : BufTy).Contents (Elt F) → (⟨S8x1x1, .i32⟩ : BufTy).Contents (Elt F)),
    StableHlo.binary main_while0b_v21 main_while0b_call0_v2 main_while0b_call0_v3 (addi : (⟨S8x1x1, .i32⟩ : BufTy).Contents (Elt F) → (⟨S8x1x1, .i32⟩ : BufTy).Contents (Elt F) → (⟨S8x1x1, .i32⟩ : BufTy).Contents (Elt F)),
    StableHlo.ternary main_while0b_call0_v1 main_while0b_call0_v3 main_while0b_v21 main_while0b_call0_v4 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    StableHlo.nullary main_while0b_call0_c_1 (constantI S1 32 2047#32),
    StableHlo.nullary main_while0b_call0_c_2 (constantI S_ 32 0#32),
    StableHlo.unary main_while0b_call0_c_2 main_while0b_call0_v5 (broadcastInDim S8x1x1 ![] bcast_S_S8x1x1 : (⟨S_, .i32⟩ : BufTy).Contents (Elt F) → (⟨S8x1x1, .i32⟩ : BufTy).Contents (Elt F)),
    StableHlo.binary main_while0b_call0_v4 main_while0b_call0_v5 main_while0b_call0_v6 (cmpi .sge : (⟨S8x1x1, .i32⟩ : BufTy).Contents (Elt F) → (⟨S8x1x1, .i32⟩ : BufTy).Contents (Elt F) → (⟨S8x1x1, .i1⟩ : BufTy).Contents (Elt F)),
    StableHlo.unary main_while0b_call0_c_1 main_while0b_call0_v7 (broadcastInDim S1x1x1 ![2] bcast_S1_S1x1x1_2 : (⟨S1, .i32⟩ : BufTy).Contents (Elt F) → (⟨S1x1x1, .i32⟩ : BufTy).Contents (Elt F)),
    StableHlo.unary main_while0b_call0_v7 main_while0b_call0_v8 (broadcastInDim S8x1x1 ![0, 1, 2] bcast_S1x1x1_S8x1x1_0_1_2 : (⟨S1x1x1, .i32⟩ : BufTy).Contents (Elt F) → (⟨S8x1x1, .i32⟩ : BufTy).Contents (Elt F)),
    StableHlo.binary main_while0b_call0_v4 main_while0b_call0_v8 main_while0b_call0_v9 (cmpi .sle : (⟨S8x1x1, .i32⟩ : BufTy).Contents (Elt F) → (⟨S8x1x1, .i32⟩ : BufTy).Contents (Elt F) → (⟨S8x1x1, .i1⟩ : BufTy).Contents (Elt F)),
    StableHlo.binary main_while0b_call0_v6 main_while0b_call0_v9 main_while0b_call0_v10 (andi : (⟨S8x1x1, .i1⟩ : BufTy).Contents (Elt F) → (⟨S8x1x1, .i1⟩ : BufTy).Contents (Elt F) → (⟨S8x1x1, .i1⟩ : BufTy).Contents (Elt F)),
    StableHlo.nullary main_while0b_call0_c_3 (constantI S_ 1 1#1),
    StableHlo.binary main_while0b_call0_v10 main_while0b_call0_c_3 main_while0b_call0_v11 (fun x v => Host.reduce IntOp.andi x v reducesTo_S8x1x1_S8x1_d2 h_S_ : (⟨S8x1x1, .i1⟩ : BufTy).Contents (Elt F) → (⟨S_, .i1⟩ : BufTy).Contents (Elt F) → (⟨S8x1, .i1⟩ : BufTy).Contents (Elt F)),
    StableHlo.binary main_v19_0 main_while0b_call0_v4 main_while0b_call0_v12 (fun x i => Host.gather gather_S8x2048x2048_S8x1x1_S8x1x2048_2_1_0_0_1_2_112048 x i : (⟨S8x2048x2048, .f32⟩ : BufTy).Contents (Elt F) → (⟨S8x1x1, .i32⟩ : BufTy).Contents (Elt F) → (⟨S8x1x2048, .f32⟩ : BufTy).Contents (Elt F)),
    StableHlo.unary main_while0b_call0_v11 main_while0b_call0_v13 (broadcastInDim S8x1x2048 ![0, 1] bcast_S8x1_S8x1x2048_0_1 : (⟨S8x1, .i1⟩ : BufTy).Contents (Elt F) → (⟨S8x1x2048, .i1⟩ : BufTy).Contents (Elt F)),
    StableHlo.nullary main_while0b_call0_cst (constant S_ .f32 0x7FC00000#32),
    StableHlo.unary main_while0b_call0_cst main_while0b_call0_v14 (broadcastInDim S8x1x2048 ![] bcast_S_S8x1x2048 : (⟨S_, .f32⟩ : BufTy).Contents (Elt F) → (⟨S8x1x2048, .f32⟩ : BufTy).Contents (Elt F)),
    StableHlo.ternary main_while0b_call0_v13 main_while0b_call0_v12 main_while0b_call0_v14 main_while0b_v22 (select : (⟨S8x1x2048, .i1⟩ : BufTy).Contents (Elt F) → (⟨S8x1x2048, .f32⟩ : BufTy).Contents (Elt F) → (⟨S8x1x2048, .f32⟩ : BufTy).Contents (Elt F) → (⟨S8x1x2048, .f32⟩ : BufTy).Contents (Elt F)) ]
/-- They touch buffers of the TensorCore only. -/
theorem bodyB_sub : (bodyB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- None makes a buffer. -/
theorem bodyB_fresh : (bodyB : List (HloOp τ sig (Elt F))).Forall fun op => op.fresh = ∅ :=
  StableHlo.forall_fresh_of_map rfl
/-- The buffers they write. -/
abbrev bodyB_W : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v22]
theorem bodyB_writes : (bodyB : List (HloOp τ sig (Elt F))).Forall fun op => op.writes ⊆ (bodyB_W.map (Proc.devRef (τ := τ) .tc)).toFinset :=
  StableHlo.forall_writes_sub_of_map rfl

/-- The operations of the running minimum. -/
abbrev bodyC : List (HloOp τ sig (Elt F)) :=
  [ StableHlo.reshape main_while0b_v22 main_while0b_v23 (rfl : (.f32 : EltTy) = .f32) shapeCasts_S8x1x2048_S8x2048,
    StableHlo.binary main_v19_2 main_while0b_v23 main_while0b_v24 (minimumf : (⟨S8x2048, .f32⟩ : BufTy).Contents (Elt F) → (⟨S8x2048, .f32⟩ : BufTy).Contents (Elt F) → (⟨S8x2048, .f32⟩ : BufTy).Contents (Elt F)) ]
/-- They touch buffers of the TensorCore only. -/
theorem bodyC_sub : (bodyC : List (HloOp τ sig (Elt F))).Forall fun op => op.bufs ⊆ StableHlo.tcRefs τ sig :=
  ⟨StableHlo.reshape_bufs_sub .., StableHlo.binary_bufs_sub ..⟩
/-- None makes a buffer. -/
theorem bodyC_fresh : (bodyC : List (HloOp τ sig (Elt F))).Forall fun op => op.fresh = ∅ :=
  StableHlo.forall_fresh_of_map rfl
/-- The buffers they write. -/
abbrev bodyC_W : List (Ref sig .tc) := [main_while0b_v23, main_while0b_v24]
theorem bodyC_writes : (bodyC : List (HloOp τ sig (Elt F))).Forall fun op => op.writes ⊆ (bodyC_W.map (Proc.devRef (τ := τ) .tc)).toFinset :=
  StableHlo.forall_writes_sub_of_map rfl

/-- The operations of its argmax. -/
abbrev bodyD : List (HloOp τ sig (Elt F)) :=
  [ StableHlo.nullary main_while0b_call1_v0 (iotaInDim S8x2048 32 1),
    StableHlo.nullary main_while0b_call1_cst (constant S_ .f32 0xFF800000#32),
    StableHlo.nullary main_while0b_call1_c (constantI S_ 32 0#32),
    StableHlo.quaternary main_while0b_v24 main_while0b_call1_v0 main_while0b_call1_cst main_while0b_call1_c main_while0b_call1_v1_0 (fun x y u v j => (Host.argReduce reducer_argmax_f32_i32 x y u v reducesTo_S8x2048_S8_d1 h_S_ j).1 : (⟨S8x2048, .f32⟩ : BufTy).Contents (Elt F) → (⟨S8x2048, .i32⟩ : BufTy).Contents (Elt F) → (⟨S_, .f32⟩ : BufTy).Contents (Elt F) → (⟨S_, .i32⟩ : BufTy).Contents (Elt F) → (⟨S8, .f32⟩ : BufTy).Contents (Elt F)),
    StableHlo.quaternary main_while0b_v24 main_while0b_call1_v0 main_while0b_call1_cst main_while0b_call1_c main_while0b_v25 (fun x y u v j => (Host.argReduce reducer_argmax_f32_i32 x y u v reducesTo_S8x2048_S8_d1 h_S_ j).2 : (⟨S8x2048, .f32⟩ : BufTy).Contents (Elt F) → (⟨S8x2048, .i32⟩ : BufTy).Contents (Elt F) → (⟨S_, .f32⟩ : BufTy).Contents (Elt F) → (⟨S_, .i32⟩ : BufTy).Contents (Elt F) → (⟨S8, .i32⟩ : BufTy).Contents (Elt F)) ]
/-- They touch buffers of the TensorCore only. -/
theorem bodyD_sub : (bodyD : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- None makes a buffer. -/
theorem bodyD_fresh : (bodyD : List (HloOp τ sig (Elt F))).Forall fun op => op.fresh = ∅ :=
  StableHlo.forall_fresh_of_map rfl
/-- The buffers they write. -/
abbrev bodyD_W : List (Ref sig .tc) := [main_while0b_call1_v0, main_while0b_call1_cst, main_while0b_call1_c, main_while0b_call1_v1_0, main_while0b_v25]
theorem bodyD_writes : (bodyD : List (HloOp τ sig (Elt F))).Forall fun op => op.writes ⊆ (bodyD_W.map (Proc.devRef (τ := τ) .tc)).toFinset :=
  StableHlo.forall_writes_sub_of_map rfl

/-- The operations of the output row written. -/
abbrev bodyE : List (HloOp τ sig (Elt F)) :=
  [ StableHlo.unary main_v19_3 main_while0b_call2_v0 (broadcastInDim S1x8 ![1] bcast_S8_S1x8_1 : (⟨S8, .i32⟩ : BufTy).Contents (Elt F) → (⟨S1x8, .i32⟩ : BufTy).Contents (Elt F)),
    StableHlo.nullary main_while0b_call2_c (constantI S_ 32 0#32),
    StableHlo.TRef.binaryIndexed (.of main_v19_4 : StableHlo.TRef sig ⟨S512x8, .i32⟩) (.of main_while0b_call2_v0 : StableHlo.TRef sig ⟨S1x8, .i32⟩) ![(.of main_v19_1 : StableHlo.TRef sig ⟨S_, .i32⟩), (.of main_while0b_call2_c : StableHlo.TRef sig ⟨S_, .i32⟩)] (.of main_while0b_v26 : StableHlo.TRef sig ⟨S512x8, .i32⟩) (fun x u i => Host.dynamicUpdateSlice x u (fun k => (i k (Shape.Idx.first h_S_)).toInt) updateFits_S512x8_S1x8) ]
/-- They touch buffers of the TensorCore only. -/
theorem bodyE_sub : (bodyE : List (HloOp τ sig (Elt F))).Forall fun op => op.bufs ⊆ StableHlo.tcRefs τ sig :=
  ⟨StableHlo.unary_bufs_sub .., StableHlo.nullary_bufs_sub .., StableHlo.binaryIndexed_bufs_sub ..⟩
/-- None makes a buffer. -/
theorem bodyE_fresh : (bodyE : List (HloOp τ sig (Elt F))).Forall fun op => op.fresh = ∅ :=
  StableHlo.forall_fresh_of_map rfl
/-- The buffers they write. -/
abbrev bodyE_W : List (Ref sig .tc) := [main_while0b_call2_v0, main_while0b_call2_c, main_while0b_v26]
theorem bodyE_writes : (bodyE : List (HloOp τ sig (Elt F))).Forall fun op => op.writes ⊆ (bodyE_W.map (Proc.devRef (τ := τ) .tc)).toFinset :=
  StableHlo.forall_writes_sub_of_map rfl

/-- The operations of the counter, and the copies into the carried buffers. -/
abbrev bodyF : List (HloOp τ sig (Elt F)) :=
  [ StableHlo.nullary main_while0b_c_9 (constantI S_ 32 1#32),
    StableHlo.binary main_v19_1 main_while0b_c_9 main_while0b_v27 (addi : (⟨S_, .i32⟩ : BufTy).Contents (Elt F) → (⟨S_, .i32⟩ : BufTy).Contents (Elt F) → (⟨S_, .i32⟩ : BufTy).Contents (Elt F)),
    StableHlo.unary main_while0b_v27 main_v19_1 id,
    StableHlo.unary main_while0b_v24 main_v19_2 id,
    StableHlo.unary main_while0b_v25 main_v19_3 id,
    StableHlo.unary main_while0b_v26 main_v19_4 id ]
/-- They touch buffers of the TensorCore only. -/
theorem bodyF_sub : (bodyF : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- None makes a buffer. -/
theorem bodyF_fresh : (bodyF : List (HloOp τ sig (Elt F))).Forall fun op => op.fresh = ∅ :=
  StableHlo.forall_fresh_of_map rfl
/-- The buffers they write. -/
abbrev bodyF_W : List (Ref sig .tc) := [main_while0b_c_9, main_while0b_v27, main_v19_1, main_v19_2, main_v19_3, main_v19_4]
theorem bodyF_writes : (bodyF : List (HloOp τ sig (Elt F))).Forall fun op => op.writes ⊆ (bodyF_W.map (Proc.devRef (τ := τ) .tc)).toFinset :=
  StableHlo.forall_writes_sub_of_map rfl

/-- The operations of the output transposed. -/
abbrev postA : List (HloOp τ sig (Elt F)) :=
  [ StableHlo.unary main_v19_4 main_v20 ((transpose S8x512 [1, 0] · transposes_S512x8_S8x512_1_0) : (⟨S512x8, .i32⟩ : BufTy).Contents (Elt F) → (⟨S8x512, .i32⟩ : BufTy).Contents (Elt F)) ]
/-- They touch buffers of the TensorCore only. -/
theorem postA_sub : (postA : List (HloOp τ sig (Elt F))).Forall fun op => op.bufs ⊆ StableHlo.tcRefs τ sig :=
  StableHlo.unary_bufs_sub ..
/-- None makes a buffer. -/
theorem postA_fresh : (postA : List (HloOp τ sig (Elt F))).Forall fun op => op.fresh = ∅ :=
  StableHlo.forall_fresh_of_map rfl
/-- The buffers they write. -/
abbrev postA_W : List (Ref sig .tc) := [main_v20]
theorem postA_writes : (postA : List (HloOp τ sig (Elt F))).Forall fun op => op.writes ⊆ (postA_W.map (Proc.devRef (τ := τ) .tc)).toFinset :=
  StableHlo.forall_writes_sub_of_map rfl

/-- The operations of the condition: the bound, and the counter compared with it. -/
abbrev condOps : List (HloOp τ sig (Elt F)) :=
  [ StableHlo.nullary main_while0c_c_9 (constantI S_ 32 512#32),
    StableHlo.binary main_v19_1 main_while0c_c_9 main_while0c_v21 (cmpi .slt : (⟨S_, .i32⟩ : BufTy).Contents (Elt F) → (⟨S_, .i32⟩ : BufTy).Contents (Elt F) → (⟨S_, .i1⟩ : BufTy).Contents (Elt F)) ]
/-- They touch buffers of the TensorCore only. -/
theorem condOps_sub : (condOps : List (HloOp τ sig (Elt F))).Forall fun op => op.bufs ⊆ StableHlo.tcRefs τ sig :=
  ⟨StableHlo.nullary_bufs_sub .., StableHlo.binary_bufs_sub ..⟩
/-- None makes a buffer. -/
theorem condOps_fresh : (condOps : List (HloOp τ sig (Elt F))).Forall fun op => op.fresh = ∅ :=
  StableHlo.forall_fresh_of_map rfl
/-- The buffers they write. -/
abbrev condOps_W : List (Ref sig .tc) := [main_while0c_c_9, main_while0c_v21]
theorem condOps_writes : (condOps : List (HloOp τ sig (Elt F))).Forall fun op => op.writes ⊆ (condOps_W.map (Proc.devRef (τ := τ) .tc)).toFinset :=
  StableHlo.forall_writes_sub_of_map rfl

end Cert.ReferenceIdeal.Hand

end
-- ==== Proof.ReferenceRun.lean ====
/-
  The run of the reference, at any value instance: it terminates, and every buffer ends at what the operations leave there,
  those of the loop 512 times round.
-/
module

public import proofs.«01_k».proof.Proof.ReferenceOps

@[expose] public section

set_option maxRecDepth 100000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- @main's stretch before the loop, the loop body's, and @main's after it. -/
abbrev preI : List (List (HloOp τ sig (Elt F))) := [pre]
abbrev bodyI : List (List (HloOp τ sig (Elt F))) := [bodyA, bodyB, bodyC, bodyD, bodyE, bodyF]
abbrev postI : List (List (HloOp τ sig (Elt F))) := [postA]

theorem hpre : Plain (preI (F := F)) :=
  .cons pre_sub (hf := List.forall_iff_forall_mem.mp pre_fresh) .nil
theorem hbodyI : Plain (bodyI (F := F)) :=
  .cons bodyA_sub (hf := List.forall_iff_forall_mem.mp bodyA_fresh)
    (.cons bodyB_sub (hf := List.forall_iff_forall_mem.mp bodyB_fresh)
    (.cons bodyC_sub (hf := List.forall_iff_forall_mem.mp bodyC_fresh)
    (.cons bodyD_sub (hf := List.forall_iff_forall_mem.mp bodyD_fresh)
    (.cons bodyE_sub (hf := List.forall_iff_forall_mem.mp bodyE_fresh)
    (.cons bodyF_sub (hf := List.forall_iff_forall_mem.mp bodyF_fresh) .nil)))))
theorem hpost : Plain (postI (F := F)) :=
  .cons postA_sub (hf := List.forall_iff_forall_mem.mp postA_fresh) .nil

/-- @main is one stretch, the loop, and one more stretch. -/
theorem main_chain (c : Dev nD) : (main (F := F) c) = Pipeline.chain ([seq pre, HostLoop.enter 0, seq postA]) := by
  rewrite [StableHlo.chain_seq_cons, Pipeline.chain_cons, StableHlo.chain_seq_cons]
  chain_rfl

/-- The three calls of the loop's body are their stretches. -/
theorem call0_eq : fn_take_along_axis.body (F := F) (.of main_v19_0) (.of main_while0b_v21) main_while0b_call0 = seq bodyB := by chain_rfl
theorem call1_eq : fn_argmax.body (F := F) (.of main_while0b_v24) main_while0b_call1 = seq bodyD := by chain_rfl
theorem call2_eq : fn_dynamic_update_index_in_dim.body (F := F) (.of main_v19_4) (.of main_v19_3) (.of main_v19_1) main_while0b_call2 = seq bodyE := by chain_rfl

/-- The loop's body is its six stretches. -/
theorem body_chain : main_while0_body (F := F) = Pipeline.chain ([seq bodyA, seq bodyB, seq bodyC, seq bodyD, seq bodyE, seq bodyF]) := by
  unfold main_while0_body
  rw [call0_eq, call1_eq, call2_eq]
  rfl

/-! ## The counter -/

variable (m : (ℓ : Loc nD τ sig) → Buf (Elt F) ℓ) (ρ : Dev nD → PrngReg)

/-- Every buffer's contents before trip `k`. -/
abbrev atK (k : ℕ) (c : Dev nD) : Valuation τ sig (Elt F) := atTrip condOps bodyI (entryContents preI m) k c

/-- The last stretch of the body leaves the counter one further. -/
theorem ctr_step (V : Valuation τ sig (Elt F)) :
    after bodyF V (Proc.devRef .tc main_v19_1) = addi (V (Proc.devRef .tc main_v19_1)) (constantI S_ 32 1#32) := by
  after_results
  rfl

/-- The counter starts at 0. -/
theorem ctr_entry (V : Valuation τ sig (Elt F)) :
    after pre V (Proc.devRef .tc main_v19_1) = constantI S_ 32 0#32 := by
  after_results
  rfl

/-- Before trip `k` the counter holds `k`. -/
theorem atK_ctr (c : Dev nD) : ∀ k, atK m k c (Proc.devRef .tc main_v19_1) = fun _ => Scf.iv 0#32 1#32 k
  | 0 => by
    rw [Scf.iv_zero]
    show after (pre (F := F)) _ (Proc.devRef .tc main_v19_1) = _
    rw [ctr_entry]
    rfl
  | k + 1 => by
    show after bodyF (after bodyE (after bodyD (after bodyC (after bodyB (after bodyA (after condOps (atK m k c))))))) (Proc.devRef .tc main_v19_1) = _
    rw [ctr_step, after_of_writes_sub _ _ bodyE_writes (by decide +kernel), after_of_writes_sub _ _ bodyD_writes (by decide +kernel), after_of_writes_sub _ _ bodyC_writes (by decide +kernel), after_of_writes_sub _ _ bodyB_writes (by decide +kernel), after_of_writes_sub _ _ bodyA_writes (by decide +kernel),
      after_of_writes_sub _ _ condOps_writes (by decide +kernel), atK_ctr c k, Scf.iv_succ]
    rfl

set_option backward.isDefEq.respectTransparency.types false in
/-- The condition returns 1 exactly on the first 512 times it is run. -/
theorem cond_spec : CondSpec (pcfgs (F := F)) defs₀ loops (main_while0_cond (F := F)) condOps bodyI (entryContents preI m) 512 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v19_1 HostLoop.idx0)
        (HloOp.result _ (atK m k c) main_while0c_c_9 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

/-! ## The run -/

/-- Every weakly fair execution of the reference terminates, every buffer holding what the operations, the 512 trips among
    them, leave there. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 512 m c (Proc.devRef .tc b)) :=
  run_loop (pcfgs (F := F)) defs₀ loops main 0 main_while0_cond main_while0_body rfl preI bodyI postI condOps hpre hbodyI hpost
    (fun c => by rw [main_chain]; rfl) (by rw [body_chain]; rfl) 512 m ρ (cond_spec m)

/-- A buffer that no operation writes keeps its contents. -/
theorem final_of_unwritten (c : Dev nD) (b : Ref sig .tc) (h0 : b ∉ pre_W) (hA : b ∉ bodyA_W) (hB : b ∉ bodyB_W) (hC : b ∉ bodyC_W) (hD : b ∉ bodyD_W) (hE : b ∉ bodyE_W) (hF : b ∉ bodyF_W)
    (h5 : b ∉ postA_W) (h6 : b ∉ condOps_W) :
    finalContents condOps preI bodyI postI 512 m c (Proc.devRef .tc b) = m ((c.tc : Thread nD τ).loc b) := by
  have hk : ∀ k, atK m k c (Proc.devRef .tc b) = m ((c.tc : Thread nD τ).loc b) := by
    intro k
    induction k with
    | zero =>
      show after pre (launchContents m c) (Proc.devRef .tc b) = _
      rw [after_of_writes_sub _ _ pre_writes h0]
    | succ k ih =>
      show after bodyF (after bodyE (after bodyD (after bodyC (after bodyB (after bodyA (after condOps (atK m k c))))))) (Proc.devRef .tc b) = _
      rw [after_of_writes_sub _ _ bodyF_writes hF, after_of_writes_sub _ _ bodyE_writes hE, after_of_writes_sub _ _ bodyD_writes hD, after_of_writes_sub _ _ bodyC_writes hC, after_of_writes_sub _ _ bodyB_writes hB, after_of_writes_sub _ _ bodyA_writes hA,
        after_of_writes_sub _ _ condOps_writes h6, ih]
  show after postA (after condOps (atK m 512 c)) (Proc.devRef .tc b) = _
  rw [after_of_writes_sub _ _ postA_writes h5, after_of_writes_sub _ _ condOps_writes h6, hk]

/-- The reference terminates, leaves its arguments as they were and no semaphore raised. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h =>
    ⟨fun c => ⟨(h c main_arg0 (by decide)).trans (final_of_unwritten m c _ (by decide +kernel) (by decide +kernel) (by decide +kernel) (by decide +kernel) (by decide +kernel) (by decide +kernel)
        (by decide +kernel) (by decide +kernel) (by decide +kernel)),
      (h c main_arg1 (by decide)).trans (final_of_unwritten m c _ (by decide +kernel) (by decide +kernel) (by decide +kernel) (by decide +kernel) (by decide +kernel) (by decide +kernel)
        (by decide +kernel) (by decide +kernel) (by decide +kernel))⟩,
      Idealize.ShloMosaic.sem_eq_zero_of_no_sems (by decide) r.2⟩) (run_fold m ρ)

end Cert.ReferenceIdeal.Hand

end
-- ==== Proof.Steps.lean ====
/-
  The sequence of states that sampling runs through, as a function of the distances: from the first point and the initial
  distances, 512 steps, each one step of the precondition's own function.
-/
module

public import proofs.«01_k».proof.Pre_no_tie
public import proofs.«01_k».proof.Proof.Gen.Pre_no_tie

@[expose] public section

set_option maxRecDepth 100000

noncomputable section

namespace Cert.Sampling

open Idealize.ShloMosaic Cert.Pre_no_tie

variable {F : FTy → Type} [FloatOps F]

/-- The distances of all points to each other, of every batch. -/
abbrev Dists (F : FTy → Type) [FloatOps F] : Type := FVec F S8x2048x2048 .f32

/-- A state: every point's distance to the points taken so far, the last point taken, and whether every maximum met so far
    was the only one of its batch. -/
abbrev State (F : FTy → Type) [FloatOps F] : Type := FVec F S8x2048 .f32 × IVec S8 32 × IVec S8 1

/-- One step. -/
def step (D : Dists F) (s : State F) : State F := fn_steps_1 D s.1 s.2.1 s.2.2

/-- The state before the first step: every distance at the initial value, point 0 taken, no tie met. -/
def start : State F :=
  (broadcastInDim S8x2048 ![] Facts.bcast_S_S8x2048 (constant S_ .f32 0x501502F9#32),
    broadcastInDim S8 ![] Facts.bcast_S_S8 (constantI S_ 32 0#32),
    broadcastInDim S8 ![] Facts.bcast_S_S8 (constantI S_ 1 1#1))

/-- The state before step `k`. -/
def stateAt (D : Dists F) (k : ℕ) : State F := (step D)^[k] start

theorem stateAt_zero (D : Dists F) : stateAt D 0 = start := rfl

theorem stateAt_succ (D : Dists F) (k : ℕ) : stateAt D (k + 1) = step D (stateAt D k) :=
  Function.iterate_succ_apply' _ _ _

/-- The distances of a step: the former ones and the row at the point taken, the lesser of each two. -/
theorem step_dists (D : Dists F) (s : State F) :
    (step D s).1 = minimumf s.1 (shapeCast S8x2048
      (fn_take_along_axis D (broadcastInDim S8x1x1 ![0] Facts.bcast_S8_S8x1x1_0 s.2.1)) Facts.shapeCasts_S8x1x2048_S8x2048) := rfl

/-- The point of a step: the argmax of its distances. -/
theorem step_point (D : Dists F) (s : State F) : (step D s).2.1 = fn_argmax (step D s).1 := rfl

/-- Eight steps of the precondition's function are eight steps. -/
theorem steps_8 (D : Dists F) (s : State F) : fn_steps_8 D s.1 s.2.1 s.2.2 = (step D)^[8] s := rfl

/-- Sixty-four steps of the precondition's function are sixty-four steps. -/
theorem steps_64 (D : Dists F) (s : State F) : fn_steps_64 D s.1 s.2.1 s.2.2 = (step D)^[64] s := by
  have h : fn_steps_64 D s.1 s.2.1 s.2.2 = (fun s : State F => fn_steps_8 D s.1 s.2.1 s.2.2)^[8] s := rfl
  rw [h, funext (steps_8 D), ← Function.iterate_mul]

/-- The distances, as the precondition and the reference build them from the two arguments. -/
def points (x : FVec F S8x2048x3 .f32) (y : FVec F S8x128x2048 .f32) : FVec F S8x2048x131 .f32 :=
  concatenate S8x2048x131 2 [⟨S8x2048x3, x⟩, ⟨S8x2048x128, transpose S8x2048x128 [0, 2, 1] y Facts.transposes_S8x128x2048_S8x2048x128_0_2_1⟩]
    Facts.concatenates_S8x2048x3_S8x2048x128_S8x2048x131_d2

/-- The squared lengths of the points. -/
def norms (P : FVec F S8x2048x131 .f32) : FVec F S8x2048 .f32 :=
  Host.reduceAdd (mulf P P) (constant S_ .f32 0x00000000#32) Facts.reducesTo_S8x2048x131_S8x2048_d2 Facts.h_S_

/-- The distances of all points to each other: the two squared lengths less twice the inner product. -/
def dists (P : FVec F S8x2048x131 .f32) : Dists F :=
  subf (addf (broadcastInDim S8x2048x2048 ![0, 1, 2] Facts.bcast_S8x2048x1_S8x2048x2048_0_1_2 (broadcastInDim S8x2048x1 ![0, 1] Facts.bcast_S8x2048_S8x2048x1_0_1 (norms P)))
      (broadcastInDim S8x2048x2048 ![0, 1, 2] Facts.bcast_S8x1x2048_S8x2048x2048_0_1_2 (broadcastInDim S8x1x2048 ![0, 2] Facts.bcast_S8x2048_S8x1x2048_0_2 (norms P))))
    (mulf (broadcastInDim S8x2048x2048 ![] Facts.bcast_S_S8x2048x2048 (constant S_ .f32 0x40000000#32))
      (Host.dotGeneral dot_S8x2048x131_S8x131x2048_S8x2048x2048_2_1_1_2_0_0 none P
        (transpose S8x131x2048 [0, 2, 1] P Facts.transposes_S8x2048x131_S8x131x2048_0_2_1)))

/-- The precondition's function is the last of the state's three parts after 512 steps. -/
theorem fn_eq (x : FVec F S8x2048x3 .f32) (y : FVec F S8x128x2048 .f32) :
    fn x y = (stateAt (dists (points x y)) 512).2.2 := by
  have h : fn x y = ((fun s : State F => fn_steps_64 (dists (points x y)) s.1 s.2.1 s.2.2)^[8] start).2.2 := rfl
  rw [h, funext (steps_64 _), ← Function.iterate_mul]
  rfl

end Cert.Sampling

end
-- ==== Proof.Distances.lean ====
/-
  The reference's distances, over the extended reals: at points `p` and `q` of a batch, the two squared lengths less twice
  the inner product.
-/
module

public import proofs.«01_k».proof.Proof.Steps
public import Idealize.ShloMosaic.Lib.ValueIdx
public import Idealize.ShloMosaic.Lib.Pipeline.Value
public import Idealize.ShloMosaic.PureOps.Ideal.Laws

@[expose] public section

set_option maxRecDepth 100000

noncomputable section

namespace Cert.Sampling

open Idealize.ShloMosaic Idealize.ShloMosaic.ValueIdx Cert.Pre_no_tie

/-- The number two, as the programs write it. -/
def two : EReal := Ideal.ofBits .f32 0x40000000#32

/-- The reference's contraction. -/
abbrev refDot := dot_S8x2048x131_S8x131x2048_S8x2048x2048_2_1_1_2_0_0

/-- The reference's inner products, as sums over the 131 coordinates. -/
theorem inner_apply (P : FVec Ideal S8x2048x131 .f32) (Q : FVec Ideal S8x131x2048 .f32) (b : Fin 8) (p q : Fin 2048) :
    Host.dotGeneral refDot none P Q (ix3 b p q) = ∑ c : Fin 131, P (ix3 b p c) * Q (ix3 b c q) := by
  simp only [Host.dotGeneral]
  refine (Ideal.dotGeneral_apply refDot none _ P Q (ix3 b p q)).trans ?_
  refine Fintype.sum_equiv (contrEquiv1 refDot 131 rfl rfl) _ _ fun k => ?_
  have hl : refDot.lhsIdx (ix3 b p q) k = ix3 b p (contrEquiv1 refDot 131 rfl rfl k) := by
    funext a
    fin_cases a <;> rfl
  have hr : refDot.rhsIdx (ix3 b p q) k = ix3 b (contrEquiv1 refDot 131 rfl rfl k) q := by
    funext a
    fin_cases a <;> rfl
  rw [hl, hr]

/-- The distance of two points of a batch. -/
theorem dists_apply (P : FVec Ideal S8x2048x131 .f32) (b : Fin 8) (p q : Fin 2048) :
    dists P (ix3 b p q) = (norms P (ix2 b p) + norms P (ix2 b q)) - two * ∑ c : Fin 131, P (ix3 b p c) * P (ix3 b q c) := by
  have h1 : (broadcastInDim S8x2048x2048 ![0, 1, 2] Facts.bcast_S8x2048x1_S8x2048x2048_0_1_2
      (broadcastInDim S8x2048x1 ![0, 1] Facts.bcast_S8x2048_S8x2048x1_0_1 (norms P)) : FVec Ideal S8x2048x2048 .f32) (ix3 b p q) = norms P (ix2 b p) :=
    (broadcastInDim_apply _ _ _ _ (ix3 b p 0) (by intro a; fin_cases a <;> rfl)).trans
      (broadcastInDim_apply _ _ _ _ (ix2 b p) (by intro a; fin_cases a <;> rfl))
  have h2 : (broadcastInDim S8x2048x2048 ![0, 1, 2] Facts.bcast_S8x1x2048_S8x2048x2048_0_1_2
      (broadcastInDim S8x1x2048 ![0, 2] Facts.bcast_S8x2048_S8x1x2048_0_2 (norms P)) : FVec Ideal S8x2048x2048 .f32) (ix3 b p q) = norms P (ix2 b q) :=
    (broadcastInDim_apply _ _ _ _ (ix3 b 0 q) (by intro a; fin_cases a <;> rfl)).trans
      (broadcastInDim_apply _ _ _ _ (ix2 b q) (by intro a; fin_cases a <;> rfl))
  have h3 : Host.dotGeneral refDot none P (transpose S8x131x2048 [0, 2, 1] P Facts.transposes_S8x2048x131_S8x131x2048_0_2_1) (ix3 b p q)
      = ∑ c : Fin 131, P (ix3 b p c) * P (ix3 b q c) := by
    rw [inner_apply]
    refine Finset.sum_congr rfl fun c _ => congrArg (P (ix3 b p c) * ·) ?_
    exact transpose_apply _ _ _ _ _ (by intro a; fin_cases a <;> rfl)
  unfold dists
  show (_ + _) - (two * _) = _
  exact congrArg₂ (· - ·) (congrArg₂ (· + ·) h1 h2) (congrArg (two * ·) h3)

end Cert.Sampling

end
-- ==== Proof.KernelDistances.lean ====
/-
  The distances the kernel stores, over the extended reals: at points `p` and `q` of one of the block's two batches, the two
  squared lengths less twice the inner product of the coordinates' columns.
-/
module

public import proofs.«01_k».proof.Proof.KernelIdealBody
public import proofs.«01_k».proof.Proof.Distances

@[expose] public section

set_option maxRecDepth 100000

noncomputable section

namespace Cert.KernelIdeal.Hand

open Cert.KernelIdeal Cert.KernelIdeal.Gen
open Idealize.ShloMosaic Idealize.ShloMosaic.ValueIdx
open Cert.Sampling (two)

/-- The kernel's contraction. -/
abbrev kerDot := dot_S131x2048_S131x2048_S2048x2048_0_0_1_1_n_n

/-- The kernel's inner products, as sums over the 131 coordinates. -/
theorem inner_apply (X Y : FVec Ideal S131x2048 .f32) (p q : Fin 2048) :
    matmul kerDot none X Y (constant S2048x2048 .f32 0x00000000#32) (ix2 p q) = ∑ c : Fin 131, X (ix2 c p) * Y (ix2 c q) := by
  refine (Ideal.matmul_constant_zero_apply kerDot none X Y (ix2 p q)).trans ?_
  refine Fintype.sum_equiv (contrEquiv1 kerDot 131 rfl rfl) _ _ fun k => ?_
  have hl : kerDot.lhsIdx (ix2 p q) k = ix2 (contrEquiv1 kerDot 131 rfl rfl k) p := by
    funext a
    fin_cases a <;> rfl
  have hr : kerDot.rhsIdx (ix2 p q) k = ix2 (contrEquiv1 kerDot 131 rfl rfl k) q := by
    funext a
    fin_cases a <;> rfl
  rw [hl, hr]

/-- The distances of one batch, from its coordinates and squared lengths. -/
def slab (x : Vec Ideal S1x131x2048 .f32) (n : Vec Ideal S1x1x2048 .f32) : FVec Ideal S2048x2048 .f32 :=
  subf (addf (broadcastTo S2048x2048 (transpose S2048x1 [1, 0] (shapeCast S1x2048 n shapeCasts_S1x1x2048_S1x2048) transposes_S1x2048_p1_0_S2048x1)
        broadcasts_S2048x1_S2048x2048)
      (broadcastTo S2048x2048 (shapeCast S1x2048 n shapeCasts_S1x1x2048_S1x2048) broadcasts_S1x2048_S2048x2048))
    (mulf (broadcast S2048x2048 (Scalar.ofBits .f32 0x40000000#32))
      (matmul (φ₁ := .f32) (φ₂ := .f32) kerDot none (shapeCast S131x2048 x shapeCasts_S1x131x2048_S131x2048)
        (shapeCast S131x2048 x shapeCasts_S1x131x2048_S131x2048) (constant S2048x2048 .f32 0x00000000#32)))

/-- The first batch's stored distances. -/
theorem pay9_eq (x : Vec Ideal S1x131x2048 .f32) (n : Vec Ideal S1x1x2048 .f32) :
    k0_pay9 x x n n = shapeCast S1x2048x2048 (slab x n) shapeCasts_S2048x2048_S1x2048x2048 := rfl

/-- The second batch's stored distances. -/
theorem pay1_eq (x : Vec Ideal S1x131x2048 .f32) (n : Vec Ideal S1x1x2048 .f32) :
    k0_pay1 (k0_pay10 x x) (k0_pay11 n) n = shapeCast S1x2048x2048 (slab x n) shapeCasts_S2048x2048_S1x2048x2048 := rfl

/-- The squared lengths as a row. -/
theorem norm_row (n : Vec Ideal S1x1x2048 .f32) (p : Fin 2048) :
    (shapeCast S1x2048 n shapeCasts_S1x1x2048_S1x2048 : FVec Ideal S1x2048 .f32) (ix2 0 p) = n (ix3 0 0 p) :=
  (shapeCast_dropUnit_apply ![1, 2048] n _ (ix2 0 p)).trans (congrArg n (funext fun a => by fin_cases a <;> rfl))

/-- The coordinates as a matrix. -/
theorem coord_row (x : Vec Ideal S1x131x2048 .f32) (c : Fin 131) (p : Fin 2048) :
    (shapeCast S131x2048 x shapeCasts_S1x131x2048_S131x2048 : FVec Ideal S131x2048 .f32) (ix2 c p) = x (ix3 0 c p) :=
  (shapeCast_dropUnit_apply ![131, 2048] x _ (ix2 c p)).trans (congrArg x (funext fun a => by fin_cases a <;> rfl))

/-- The distance of two points. -/
theorem slab_apply (x : Vec Ideal S1x131x2048 .f32) (n : Vec Ideal S1x1x2048 .f32) (p q : Fin 2048) :
    slab x n (ix2 p q) = (n (ix3 0 0 p) + n (ix3 0 0 q)) - two * ∑ c : Fin 131, x (ix3 0 c p) * x (ix3 0 c q) := by
  have h1 : (broadcastTo S2048x2048 (transpose S2048x1 [1, 0] (shapeCast S1x2048 n shapeCasts_S1x1x2048_S1x2048) transposes_S1x2048_p1_0_S2048x1)
        broadcasts_S2048x1_S2048x2048 : FVec Ideal S2048x2048 .f32) (ix2 p q) = n (ix3 0 0 p) :=
    (broadcastTo_apply _ _ _ (ix2 p 0) (by intro a; fin_cases a <;> rfl)).trans
      ((transpose_apply _ _ _ _ (ix2 0 p) (by intro a; fin_cases a <;> rfl)).trans (norm_row n p))
  have h2 : (broadcastTo S2048x2048 (shapeCast S1x2048 n shapeCasts_S1x1x2048_S1x2048) broadcasts_S1x2048_S2048x2048 : FVec Ideal S2048x2048 .f32) (ix2 p q)
      = n (ix3 0 0 q) :=
    (broadcastTo_apply _ _ _ (ix2 0 q) (by intro a; fin_cases a <;> rfl)).trans (norm_row n q)
  have h3 := inner_apply (shapeCast S131x2048 x shapeCasts_S1x131x2048_S131x2048) (shapeCast S131x2048 x shapeCasts_S1x131x2048_S131x2048) p q
  have h4 : ∑ c : Fin 131, (shapeCast S131x2048 x shapeCasts_S1x131x2048_S131x2048 : FVec Ideal S131x2048 .f32) (ix2 c p)
        * (shapeCast S131x2048 x shapeCasts_S1x131x2048_S131x2048 : FVec Ideal S131x2048 .f32) (ix2 c q)
      = ∑ c : Fin 131, x (ix3 0 c p) * x (ix3 0 c q) :=
    Finset.sum_congr rfl fun c _ => congrArg₂ (fun u v : EReal => u * v) (coord_row x c p) (coord_row x c q)
  unfold slab
  show (_ + _) - (two * _) = _
  exact congrArg₂ (fun u v : EReal => u - v) (congrArg₂ (fun u v : EReal => u + v) h1 h2) (congrArg (fun u : EReal => two * u) (h3.trans h4))

/-- What is stored for one batch, at an index of its rectangle. -/
theorem stored_apply (x : Vec Ideal S1x131x2048 .f32) (n : Vec Ideal S1x1x2048 .f32) (y : S1x2048x2048.Idx) :
    shapeCast S1x2048x2048 (slab x n) shapeCasts_S2048x2048_S1x2048x2048 y
      = (n (ix3 0 0 (y 1)) + n (ix3 0 0 (y 2))) - two * ∑ c : Fin 131, x (ix3 0 c (y 1)) * x (ix3 0 c (y 2)) :=
  (shapeCast_addUnit_apply ![2048, 2048] (slab x n) _ y).trans
    ((congrArg (slab x n) (funext fun a => by fin_cases a <;> rfl : _ = ix2 (y 1) (y 2))).trans (slab_apply x n (y 1) (y 2)))

/-- The distance of two points of a batch of the block, from the block's coordinates and squared lengths. -/
def entry (X : Vec Ideal S2x131x2048 .f32) (N : Vec Ideal S2x1x2048 .f32) (y : S2x2048x2048.Idx) : EReal :=
  (N (ix3 (y 0) 0 (y 1)) + N (ix3 (y 0) 0 (y 2))) - two * ∑ c : Fin 131, X (ix3 (y 0) c (y 1)) * X (ix3 (y 0) c (y 2))

/-- The first batch's coordinates are those of the block at 0. -/
theorem xs0_apply (X : Vec Ideal S2x131x2048 .f32) (c : Fin 131) (p : Fin 2048) : xs0 X (ix3 0 c p) = X (ix3 0 c p) :=
  congrArg X (funext fun a => by
    fin_cases a
    · exact Fin.ext (show 0 + 1 * 0 = 0 by omega)
    · exact Fin.ext (show 0 + 1 * c.val = c.val by omega)
    · exact Fin.ext (show 0 + 1 * p.val = p.val by omega))

/-- The second batch's coordinates are those of the block at 1. -/
theorem xs1_apply (X : Vec Ideal S2x131x2048 .f32) (c : Fin 131) (p : Fin 2048) : xs1 X (ix3 0 c p) = X (ix3 1 c p) :=
  congrArg X (funext fun a => by
    fin_cases a
    · exact Fin.ext (show 1 + 1 * 0 = 1 by omega)
    · exact Fin.ext (show 0 + 1 * c.val = c.val by omega)
    · exact Fin.ext (show 0 + 1 * p.val = p.val by omega))

/-- The first batch's squared lengths are those of the block at 0. -/
theorem ns0_apply (N : Vec Ideal S2x1x2048 .f32) (p : Fin 2048) : ns0 N (ix3 0 0 p) = N (ix3 0 0 p) :=
  congrArg N (funext fun a => by
    fin_cases a
    · exact Fin.ext (show 0 + 1 * 0 = 0 by omega)
    · exact Fin.ext (show 0 + 1 * 0 = 0 by omega)
    · exact Fin.ext (show 0 + 1 * p.val = p.val by omega))

/-- The second batch's squared lengths are those of the block at 1. -/
theorem ns1_apply (N : Vec Ideal S2x1x2048 .f32) (p : Fin 2048) : ns1 N (ix3 0 0 p) = N (ix3 1 0 p) :=
  congrArg N (funext fun a => by
    fin_cases a
    · exact Fin.ext (show 1 + 1 * 0 = 1 by omega)
    · exact Fin.ext (show 0 + 1 * 0 = 0 by omega)
    · exact Fin.ext (show 0 + 1 * p.val = p.val by omega))

/-- What is stored for batch `i`, where its columns are the block's at `i`, is the block's distance. -/
theorem stored_entry (X : Vec Ideal S2x131x2048 .f32) (N : Vec Ideal S2x1x2048 .f32) (x : Vec Ideal S1x131x2048 .f32)
    (n : Vec Ideal S1x1x2048 .f32) (i : Fin 2) (hx : ∀ c p, x (ix3 0 c p) = X (ix3 i c p)) (hn : ∀ p, n (ix3 0 0 p) = N (ix3 i 0 p))
    (y : S1x2048x2048.Idx) (e : S2x2048x2048.Idx) (he : e = ix3 i (y 1) (y 2)) :
    shapeCast S1x2048x2048 (slab x n) shapeCasts_S2048x2048_S1x2048x2048 y = entry X N e := by
  subst he
  refine (stored_apply x n y).trans ?_
  exact congrArg₂ (fun u v : EReal => u - v) (congrArg₂ (fun u v : EReal => u + v) (hn _) (hn _))
    (congrArg (fun u : EReal => two * u) (Finset.sum_congr rfl fun c _ => congrArg₂ (fun u v : EReal => u * v) (hx c _) (hx c _)))

/-- The block's distance matrices at batch `i`, points `p` and `q`. -/
theorem dist_apply (X : Vec Ideal S2x131x2048 .f32) (N : Vec Ideal S2x1x2048 .f32) (i : Fin 2) (p q : Fin 2048) :
    dist X N (ix3 i p q) = (N (ix3 i 0 p) + N (ix3 i 0 q)) - two * ∑ c : Fin 131, X (ix3 i c p) * X (ix3 i c q) := by
  unfold dist
  refine View.canon_apply_of_pieces (entry X N) (slabs X N) ?_ (ix3 i p q) (slabs_cover X N _)
  intro r hr
  simp only [slabs, List.mem_cons, List.not_mem_nil, or_false] at hr
  rcases hr with rfl | rfl
  · intro y
    refine stored_entry X N (xs1 X) (ns1 N) 1 (xs1_apply X) (ns1_apply N) y _ (funext fun a => ?_)
    fin_cases a
    · exact Fin.ext (show 1 + 1 * (y 0).val = 1 by have h : (y 0).val < 1 := (y 0).isLt; omega)
    · exact Fin.ext (show 0 + 1 * (y 1).val = (y 1).val by omega)
    · exact Fin.ext (show 0 + 1 * (y 2).val = (y 2).val by omega)
  · intro y
    refine stored_entry X N (xs0 X) (ns0 N) 0 (xs0_apply X) (ns0_apply N) y _ (funext fun a => ?_)
    fin_cases a
    · exact Fin.ext (show 0 + 1 * (y 0).val = 0 by have h : (y 0).val < 1 := (y 0).isLt; omega)
    · exact Fin.ext (show 0 + 1 * (y 1).val = (y 1).val by omega)
    · exact Fin.ext (show 0 + 1 * (y 2).val = (y 2).val by omega)

end Cert.KernelIdeal.Hand

end
-- ==== Proof.KernelArrays.lean ====
/-
  What the kernel's windows hold, over the extended reals: the first the points' coordinates as columns, the second the
  points' squared lengths, two batches a block; so the stored distances are the reference's.
-/
module

public import proofs.«01_k».proof.Proof.KernelIdealRun
public import proofs.«01_k».proof.Proof.KernelDistances
public import Idealize.ShloMosaic.Lib.Pipeline.ValueKit

@[expose] public section

set_option maxRecDepth 100000

noncomputable section

namespace Cert.KernelIdeal.Hand

open Cert.KernelIdeal Cert.KernelIdeal.Gen
open Idealize.ShloMosaic hiding ix1 ix2 ix3
open Idealize.ShloMosaic.TcCoe Idealize.ShloMosaic.Tactic Idealize.ShloMosaic.ValueIdx
open Cert.Sampling (points norms dists)

variable (m : (ℓ : Loc nD τ sig) → Buf (Elt Ideal) ℓ)

/-- The points of the launch's arguments. -/
def pts (c : Dev nD) : FVec Ideal S8x2048x131 .f32 :=
  points (F := Ideal) (m ((c.tc : Thread nD τ).loc main_arg0)) (m ((c.tc : Thread nD τ).loc main_arg1))

/-- The first window's array: the transposed coordinates above the features. -/
theorem V_v6 (c : Dev nD) : V m c main_v6 = concatenate S8x131x2048 1
    [⟨S8x3x2048, transpose S8x3x2048 [0, 2, 1] (m ((c.tc : Thread nD τ).loc main_arg0) : FVec Ideal S8x2048x3 .f32) transposes_S8x2048x3_S8x3x2048_0_2_1⟩,
     ⟨S8x128x2048, (m ((c.tc : Thread nD τ).loc main_arg1) : FVec Ideal S8x128x2048 .f32)⟩]
    concatenates_S8x3x2048_S8x128x2048_S8x131x2048_d1 := by
  show StableHlo.after hostOps0 (fun b => m (c, b)) (Proc.devRef .tc main_v6) = _
  after_results

/-- The second window's array: the squared lengths, as rows. -/
theorem V_v4 (c : Dev nD) : V m c main_v4
    = broadcastInDim S8x1x2048 ![0, 2] bcast_S8x2048_S8x1x2048_0_2 (norms (F := Ideal) (pts m c)) := by
  show StableHlo.after hostOps0 (fun b => m (c, b)) (Proc.devRef .tc main_v4) = _
  after_results
  rfl

/-- The coordinates as columns are the points' coordinates. -/
theorem columns_apply (x : FVec Ideal S8x2048x3 .f32) (y : FVec Ideal S8x128x2048 .f32) (b : Fin 8) (k : Fin 131) (p : Fin 2048) :
    concatenate S8x131x2048 1 [⟨S8x3x2048, transpose S8x3x2048 [0, 2, 1] x transposes_S8x2048x3_S8x3x2048_0_2_1⟩, ⟨S8x128x2048, y⟩]
      concatenates_S8x3x2048_S8x128x2048_S8x131x2048_d1 (ix3 b k p) = points (F := Ideal) x y (ix3 b p k) := by
  unfold points
  by_cases hk : k.val < 3
  · have h1 := concatenate_pair_apply_left (1 : Fin S8x131x2048.rank) (transpose S8x3x2048 [0, 2, 1] x transposes_S8x2048x3_S8x3x2048_0_2_1) y
      concatenates_S8x3x2048_S8x128x2048_S8x131x2048_d1 (ix3 b k p) rfl (ix3 b ⟨k.val, hk⟩ p) (by intro a; fin_cases a <;> rfl)
    have h2 : transpose S8x3x2048 [0, 2, 1] x transposes_S8x2048x3_S8x3x2048_0_2_1 (ix3 b ⟨k.val, hk⟩ p) = x (ix3 b p ⟨k.val, hk⟩) :=
      transpose_apply _ _ _ _ _ (by intro a; fin_cases a <;> rfl)
    have h3 := concatenate_pair_apply_left (2 : Fin Cert.Pre_no_tie.S8x2048x131.rank) x
      (transpose Cert.Pre_no_tie.S8x2048x128 [0, 2, 1] y Cert.Pre_no_tie.Facts.transposes_S8x128x2048_S8x2048x128_0_2_1)
      Cert.Pre_no_tie.Facts.concatenates_S8x2048x3_S8x2048x128_S8x2048x131_d2 (ix3 b p k) rfl (ix3 b p ⟨k.val, hk⟩)
      (by intro a; fin_cases a <;> rfl)
    exact h1.trans (h2.trans h3.symm)
  · have hk' : k.val - 3 < 128 := by omega
    have h1 := concatenate_pair_apply_right (1 : Fin S8x131x2048.rank) (transpose S8x3x2048 [0, 2, 1] x transposes_S8x2048x3_S8x3x2048_0_2_1) y
      concatenates_S8x3x2048_S8x128x2048_S8x131x2048_d1 (ix3 b k p) rfl rfl (ix3 b ⟨k.val - 3, hk'⟩ p)
      (by intro a ha; fin_cases a <;> first | rfl | exact absurd rfl ha) (show k.val - 3 + 3 = k.val by omega)
    have h2 : transpose Cert.Pre_no_tie.S8x2048x128 [0, 2, 1] y Cert.Pre_no_tie.Facts.transposes_S8x128x2048_S8x2048x128_0_2_1
        (ix3 b p ⟨k.val - 3, hk'⟩) = y (ix3 b ⟨k.val - 3, hk'⟩ p) :=
      transpose_apply _ _ _ _ _ (by intro a; fin_cases a <;> rfl)
    have h3 := concatenate_pair_apply_right (2 : Fin Cert.Pre_no_tie.S8x2048x131.rank) x
      (transpose Cert.Pre_no_tie.S8x2048x128 [0, 2, 1] y Cert.Pre_no_tie.Facts.transposes_S8x128x2048_S8x2048x128_0_2_1)
      Cert.Pre_no_tie.Facts.concatenates_S8x2048x3_S8x2048x128_S8x2048x131_d2 (ix3 b p k) rfl rfl (ix3 b p ⟨k.val - 3, hk'⟩)
      (by intro a ha; fin_cases a <;> first | rfl | exact absurd rfl ha) (show k.val - 3 + 3 = k.val by omega)
    exact h1.trans (h2.symm.trans h3.symm)

/-- The first window's array at a batch, coordinate and point: the point's coordinate. -/
theorem V_v6_apply (c : Dev nD) (b : Fin 8) (k : Fin 131) (p : Fin 2048) :
    (V m c main_v6 : FVec Ideal S8x131x2048 .f32) (ix3 b k p) = pts m c (ix3 b p k) := by
  rw [V_v6]
  exact columns_apply _ _ b k p

/-- The second window's array at a batch and point: the point's squared length. -/
theorem V_v4_apply (c : Dev nD) (b : Fin 8) (p : Fin 2048) :
    (V m c main_v4 : FVec Ideal S8x1x2048 .f32) (ix3 b 0 p) = norms (F := Ideal) (pts m c) (ix2 b p) := by
  rw [V_v4]
  exact broadcastInDim_apply _ _ _ _ (ix2 b p) (by intro a; fin_cases a <;> rfl)

/-- The windows' blocks along the batches. -/
theorem index0 : ∀ t : Fin cfg0.N, win0_0.index t = ![t.val, 0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 0, 0] := (by decide +kernel : ∀ t : Fin grid0.N, _)

/-- The batch that is number `i` of block `t`. -/
def bat (t : Fin cfg0.N) (i : Fin 2) : Fin 8 := ⟨2 * t.val + i.val, by have h : t.val < 4 := t.isLt; omega⟩

/-- The first window's block at point `t`. -/
theorem iblk0_apply (c : Dev nD) (t : Fin cfg0.N) (i : Fin 2) (k : Fin 131) (p : Fin 2048) :
    (iblk m c 0 t : Vec Ideal S2x131x2048 .f32) (ix3 i k p) = pts m c (ix3 (bat t i) p k) := by
  refine Eq.trans ?_ (V_v6_apply m c (bat t i) k p)
  show V m c main_v6 (((cfg0.win 0).blk t).view.emb (ix3 i k p)) = V m c main_v6 (ix3 (bat t i) k p)
  refine congrArg (V m c main_v6) ?_
  blk_ext [index0]
  show t.val * 2 + i.val = 2 * t.val + i.val
  omega

/-- The second window's block at point `t`. -/
theorem iblk1_apply (c : Dev nD) (t : Fin cfg0.N) (i : Fin 2) (p : Fin 2048) :
    (iblk m c 1 t : Vec Ideal S2x1x2048 .f32) (ix3 i 0 p) = norms (F := Ideal) (pts m c) (ix2 (bat t i) p) := by
  refine Eq.trans ?_ (V_v4_apply m c (bat t i) p)
  show V m c main_v4 (((cfg0.win 1).blk t).view.emb (ix3 i 0 p)) = V m c main_v4 (ix3 (bat t i) 0 p)
  refine congrArg (V m c main_v4) ?_
  blk_ext [index1]
  show t.val * 2 + i.val = 2 * t.val + i.val
  omega

/-- The distances stored at point `t` are the reference's of its two batches. -/
theorem dist_eq (c : Dev nD) (t : Fin cfg0.N) (i : Fin 2) (p q : Fin 2048) :
    dist (F := Ideal) (iblk m c 0 t) (iblk m c 1 t) (ix3 i p q) = dists (F := Ideal) (pts m c) (ix3 (bat t i) p q) := by
  refine (dist_apply (iblk m c 0 t) (iblk m c 1 t) i p q).trans (Eq.trans ?_ (Cert.Sampling.dists_apply (pts m c) (bat t i) p q).symm)
  exact congrArg₂ (fun u v : EReal => u - v)
    (congrArg₂ (fun u v : EReal => u + v) (iblk1_apply m c t i p) (iblk1_apply m c t i q))
    (congrArg (fun u : EReal => Cert.Sampling.two * u)
      (Finset.sum_congr rfl fun k _ => congrArg₂ (fun u v : EReal => u * v) (iblk0_apply m c t i k p) (iblk0_apply m c t i k q)))

end Cert.KernelIdeal.Hand

end
-- ==== Proof.KernelPick.lean ====
/-
  The kernel's choice of the next point, over the extended reals: where one point's distance is above every other's, the maxima
  and argmaxima of the sixteen rows, combined by halves, give that point.
-/
module

public import proofs.«01_k».proof.Proof.KernelIdealTrip
public import Idealize.ShloMosaic.Lib.ValueIdx
public import Idealize.ShloMosaic.Lib.Pipeline.Value
public import Idealize.ShloMosaic.PureOps.Ideal.Laws

@[expose] public section

set_option maxRecDepth 100000

noncomputable section

namespace Cert.KernelIdeal.Hand

open Cert.KernelIdeal Cert.KernelIdeal.Gen
open Idealize.ShloMosaic Idealize.ShloMosaic.ValueIdx

/-! ## Combining by halves -/

/-- Some value is `V`, every other value is less, and the word beside a value `V` is `I`. -/
def Win {ι : Type} (v : ι → EReal) (i : ι → BitVec 32) (V : EReal) (I : BitVec 32) : Prop :=
  (∀ r, v r < V ∨ (v r = V ∧ i r = I)) ∧ ∃ r, v r = V

/-- A column of `n` rows. -/
abbrev Col (n : ℕ) : Shape := ⟨2, ![n, 1]⟩

/-- The greater of the two halves' values, row by row. -/
def halfV (n : ℕ) (v : FVec Ideal (Col (n + n)) .f32) (hl : (Col (n + n)).Slices ![0, 0] (Col n))
    (hu : (Col (n + n)).Slices ![n, 0] (Col n)) : FVec Ideal (Col n) .f32 :=
  select (cmpf .ogt (extractStridedSlice (Col n) ![n, 0] v hu) (extractStridedSlice (Col n) ![0, 0] v hl))
    (extractStridedSlice (Col n) ![n, 0] v hu) (extractStridedSlice (Col n) ![0, 0] v hl)

/-- The word beside the greater of the two halves' values, row by row. -/
def halfI (n : ℕ) (v : FVec Ideal (Col (n + n)) .f32) (i : IVec (Col (n + n)) 32) (hl : (Col (n + n)).Slices ![0, 0] (Col n))
    (hu : (Col (n + n)).Slices ![n, 0] (Col n)) : IVec (Col n) 32 :=
  select (cmpf .ogt (extractStridedSlice (Col n) ![n, 0] v hu) (extractStridedSlice (Col n) ![0, 0] v hl))
    (extractStridedSlice (Col n) ![n, 0] i hu) (extractStridedSlice (Col n) ![0, 0] i hl)

/-- A slice at its index is the vector at the index moved by the offset. -/
theorem slice_apply {α : Type} (n o : ℕ) (x : (Col (n + n)).Idx → α) (h : (Col (n + n)).Slices ![o, 0] (Col n)) (a : Fin n)
    (ha : o + a.val < n + n) : extractStridedSlice (Col n) ![o, 0] x h (ix2 a 0) = x (ix2 ⟨o + a.val, ha⟩ 0) :=
  extractStridedSlice_apply _ _ _ _ _ (by intro d; fin_cases d <;> rfl)

/-- Every index of a column is a row's. -/
theorem col_idx {n : ℕ} (r : (Col n).Idx) : ∃ a : Fin n, r = ix2 a 0 :=
  ⟨r 0, (eq_ix2 r).trans (congrArg (ix2 (r 0)) (Subsingleton.elim (α := Fin 1) _ _))⟩

/-- The choice between two, at a row. -/
theorem half_row {α : Type} (x y : EReal) (p q : α) :
    Scalar.select (@FloatOps.cmpf Ideal _ .f32 .ogt x y) p q = open Classical in if y < x then p else q := by
  show Scalar.select (BitVec.ofBool (decide (y < x))) p q = _
  by_cases h : y < x <;> simp [h, Scalar.select]

/-- Combining by halves keeps the winner. -/
theorem win_half (n : ℕ) (v : FVec Ideal (Col (n + n)) .f32) (i : IVec (Col (n + n)) 32)
    (hl : (Col (n + n)).Slices ![0, 0] (Col n)) (hu : (Col (n + n)).Slices ![n, 0] (Col n)) (V : EReal) (I : BitVec 32)
    (h : Win v i V I) : Win (halfV n v hl hu) (halfI n v i hl hu) V I := by
  classical
  have eV : ∀ a : Fin n, halfV n v hl hu (ix2 a 0) = if v (ix2 ⟨0 + a.val, by omega⟩ 0) < v (ix2 ⟨n + a.val, by omega⟩ 0)
      then v (ix2 ⟨n + a.val, by omega⟩ 0) else v (ix2 ⟨0 + a.val, by omega⟩ 0) := by
    intro a
    refine (half_row _ _ _ _).trans ?_
    rw [slice_apply n n v hu a (by omega), slice_apply n 0 v hl a (by omega)]
  have eI : ∀ a : Fin n, halfI n v i hl hu (ix2 a 0) = if v (ix2 ⟨0 + a.val, by omega⟩ 0) < v (ix2 ⟨n + a.val, by omega⟩ 0)
      then i (ix2 ⟨n + a.val, by omega⟩ 0) else i (ix2 ⟨0 + a.val, by omega⟩ 0) := by
    intro a
    refine (half_row _ _ _ _).trans ?_
    rw [slice_apply n n v hu a (by omega), slice_apply n 0 v hl a (by omega), slice_apply n n i hu a (by omega),
      slice_apply n 0 i hl a (by omega)]
  refine ⟨fun r => ?_, ?_⟩
  · obtain ⟨a, rfl⟩ := col_idx r
    rw [eV, eI]
    split
    · exact h.1 _
    · exact h.1 _
  · obtain ⟨r, hr⟩ := h.2
    obtain ⟨a, rfl⟩ := col_idx r
    have hle : ∀ r, v r ≤ V := fun r => (h.1 r).elim le_of_lt fun e => le_of_eq e.1
    rcases Nat.lt_or_ge a.val n with ha | ha
    · refine ⟨ix2 ⟨a.val, ha⟩ 0, ?_⟩
      rw [eV, if_neg]
      · refine Eq.trans (congrArg (fun z => v (ix2 z 0)) (Fin.ext ?_)) hr
        exact Nat.zero_add _
      · rw [show (⟨0 + a.val, by omega⟩ : Fin (n + n)) = a from Fin.ext (Nat.zero_add _), hr]
        exact not_lt.2 (hle _)
    · have hlt := a.isLt
      refine ⟨ix2 ⟨a.val - n, by omega⟩ 0, ?_⟩
      rw [eV, show (⟨n + (⟨a.val - n, by omega⟩ : Fin n).val, by omega⟩ : Fin (n + n)) = a from
        Fin.ext (by show n + (a.val - n) = a.val; omega), hr]
      split
      · rfl
      · rename_i hn
        exact le_antisymm (hle _) (not_lt.1 hn)

/-- A single winner's word. -/
theorem win_single (v : FVec Ideal S1x1 .f32) (i : IVec S1x1 32) (V : EReal) (I : BitVec 32) (h : Win v i V I) (r : S1x1.Idx) :
    i r = I := by
  obtain ⟨r', hr'⟩ := h.2
  have : r = r' := funext fun a => by
    fin_cases a
    · exact Subsingleton.elim (α := Fin 1) _ _
    · exact Subsingleton.elim (α := Fin 1) _ _
  rcases h.1 r with e | e
  · rw [this, hr'] at e; exact absurd e (lt_irrefl _)
  · exact e.2

/-! ## The rows' maxima and argmaxima -/

/-- The rows' maxima, as a column. -/
def rowMax (x : FVec Ideal S16x128 .f32) : FVec Ideal S16x1 .f32 :=
  shapeCast S16x1 (multiReduction .maximumf [1] S16 x 0xFF800000#32 reduces_S16x128_S16 (.inl rfl) rfl) shapeCasts_S16_S16x1

/-- The points the rows' argmaxima are, as a column. -/
def rowArg (x : FVec Ideal S16x128 .f32) : IVec S16x1 32 :=
  addi (muli rowNo (broadcast S16x1 128#32)) (shapeCast S16x1 (reduceIndex .argMax 1 S16 x reduces_S16x128_S16) shapeCasts_S16_S16x1)

/-- The word the four halvings leave. -/
def combined (v : FVec Ideal S16x1 .f32) (i : IVec S16x1 32) : IVec S1x1 32 :=
  halfI 1
    (halfV 2 (halfV 4 (halfV 8 v slices_S16x1_o0_0_S8x1 slices_S16x1_o8_0_S8x1) slices_S8x1_o0_0_S4x1 slices_S8x1_o4_0_S4x1)
      slices_S4x1_o0_0_S2x1 slices_S4x1_o2_0_S2x1)
    (halfI 2 (halfV 4 (halfV 8 v slices_S16x1_o0_0_S8x1 slices_S16x1_o8_0_S8x1) slices_S8x1_o0_0_S4x1 slices_S8x1_o4_0_S4x1)
      (halfI 4 (halfV 8 v slices_S16x1_o0_0_S8x1 slices_S16x1_o8_0_S8x1)
        (halfI 8 v i slices_S16x1_o0_0_S8x1 slices_S16x1_o8_0_S8x1) slices_S8x1_o0_0_S4x1 slices_S8x1_o4_0_S4x1)
      slices_S4x1_o0_0_S2x1 slices_S4x1_o2_0_S2x1)
    slices_S2x1_o0_0_S1x1 slices_S2x1_o1_0_S1x1

/-- The first batch's choice from its minima: the combined word, through a maximum over one element. -/
theorem pay5_eq (a : FVec Ideal S16x128 .f32) (w : Vec Ideal S1x1x2048 .f32) :
    k0_pay5 rowNo a w = shapeCast S1x1x1 (multiReductionI .maxsi [1, 2] S1
      (shapeCast S1x1x1 (combined (rowMax (k0_pay3 a w)) (rowArg (k0_pay3 a w))) shapeCasts_S1x1_S1x1x1) 2147483648#32
      reduces_S1x1x1_S1 rfl) shapeCasts_S1_S1x1x1 := rfl

/-- The second batch's choice is the first's, on its own values. -/
theorem pay8_eq (a : FVec Ideal S16x128 .f32) (w : Vec Ideal S1x1x2048 .f32) : k0_pay8 rowNo a w = k0_pay5 rowNo a w := rfl

/-- The second batch's minima are the first's, on its own values. -/
theorem pay6_eq (a : FVec Ideal S16x128 .f32) (w : Vec Ideal S1x1x2048 .f32) : k0_pay6 a w = k0_pay3 a w := rfl

/-- The maximum over one element of words from the least is the word. -/
theorem max_one (x : IVec S1x1x1 32) (I : BitVec 32) (hx : ∀ r, x r = I) (j : S1.Idx) :
    multiReductionI .maxsi [1, 2] S1 x 2147483648#32 reduces_S1x1x1_S1 rfl j = I := by
  refine (multiReductionI_eq_fold _ _ _ _ rfl j).trans ?_
  have hs : (Finset.univ.filter fun i : S1x1x1.Idx => reduces_S1x1x1_S1.drop i = j) = {ix3 0 0 0} := by
    ext r
    simp only [Finset.mem_filter, Finset.mem_univ, true_and, Finset.mem_singleton]
    constructor
    · intro _
      funext a
      fin_cases a <;> exact Subsingleton.elim (α := Fin 1) _ _
    · intro _
      funext a
      fin_cases a
      exact Subsingleton.elim (α := Fin 1) _ _
  rw [hs, Finset.fold_singleton, hx]
  show IntOp.maxsi I 2147483648#32 = I
  unfold IntOp.maxsi
  have h0 : (2147483648#32 : BitVec 32).toInt = -2147483648 := by decide
  have := BitVec.le_toInt I
  by_cases h : (2147483648#32 : BitVec 32).slt I = true
  · rw [if_pos h]
  · rw [if_neg h]
    refine BitVec.eq_of_toInt_eq ?_
    simp only [BitVec.slt, decide_eq_true_eq, h0] at h
    rw [h0]
    norm_num at this
    omega

/-- `g` (row `g / 128`, lane `g % 128`) is the one point whose value is above every other's. -/
def Top (x : FVec Ideal S16x128 .f32) (r : Fin 16) (l : Fin 128) : Prop :=
  ∀ (r' : Fin 16) (l' : Fin 128), (r' ≠ r ∨ l' ≠ l) → x (ix2 r' l') < x (ix2 r l)

/-- The value the maxima start from is below the greatest. -/
theorem bot_lt_top (x : FVec Ideal S16x128 .f32) (r : Fin 16) (l : Fin 128) (h : Top x r l) :
    (FloatOps.ofBits .f32 0xFF800000#32 : Ideal .f32) < x (ix2 r l) := by
  have hb : (FloatOps.ofBits .f32 0xFF800000#32 : Ideal .f32) = (⊥ : EReal) := by
    show Ideal.ofBits .f32 0xFF800000#32 = ⊥
    simp [Ideal.ofBits, Ideal.ieee]
  rw [hb]
  have hne : ∃ l' : Fin 128, l' ≠ l := by
    by_cases h0 : l = 0
    · exact ⟨1, by rw [h0]; decide⟩
    · exact ⟨0, fun e => h0 e.symm⟩
  obtain ⟨l', hl⟩ := hne
  exact lt_of_le_of_lt bot_le (h r l' (.inr hl))

/-- Index `r` with the lane `l` inserted. -/
theorem lift_lane (r : Fin 16) (l : Fin 128) : reduces_S16x128_S16.lift (ix1 r) l = ix2 r l :=
  funext fun d => by fin_cases d <;> rfl

/-- A column's value at a row is the vector's. -/
theorem col_apply {α : Type} (x : S16.Idx → α) (r : Fin 16) : shapeCast S16x1 x shapeCasts_S16_S16x1 (ix2 r 0) = x (ix1 r) :=
  shapeCast_apply _ _ _ _ (by
    have h1 : (S16.rowMajor (ix1 r)).val = r.val := Shape.rowMajor_val_one (ix1 r)
    have h2 : (S16x1.rowMajor (ix2 r 0)).val = r.val * 1 + 0 := Shape.rowMajor_val_two (ix2 r (0 : Fin 1))
    omega)

/-- A row's maximum, as a fold. -/
theorem rowMax_apply (x : FVec Ideal S16x128 .f32) (r : Fin 16) :
    rowMax x (ix2 r 0) = (Finset.univ : Finset (Fin 128)).fold max (FloatOps.ofBits .f32 0xFF800000#32 : Ideal .f32) (fun l => x (ix2 r l)) := by
  refine (col_apply _ r).trans ?_
  refine (Ideal.multiReduction_maximumf_single x _ _ _ _ _).trans ?_
  exact Finset.fold_congr fun l _ => congrArg x (lift_lane r l)

/-- Membership in the part of a set that a property holds of, however the property is decided. -/
theorem mem_sub {ι : Type} (p : ι → Prop) (dec : DecidablePred p) (s : Finset ι) (i : ι) :
    i ∈ @Finset.filter ι p dec s ↔ i ∈ s ∧ p i := Finset.mem_filter

/-- The lane of the one index of a set. -/
theorem lane_of_set (s : Finset S16x128.Idx) (r : Fin 16) (l : Fin 128) (h : ∀ i, i ∈ s ↔ i = ix2 r l) :
    BitVec.ofNat 32 ((s.image fun i => (i 1).val).min.getD 0) = BitVec.ofNat 32 l.val := by
  have hs : s = {ix2 r l} := Finset.ext fun i => (h i).trans Finset.mem_singleton.symm
  rw [hs, Finset.image_singleton, Finset.min_singleton]
  rfl

/-- Where `(r, l)` is the top, the argmax of row `r` is `l`. -/
theorem rowIndex_top (x : FVec Ideal S16x128 .f32) (r : Fin 16) (l : Fin 128) (h : Top x r l) :
    reduceIndex .argMax 1 S16 x reduces_S16x128_S16 (ix1 r) = BitVec.ofNat 32 l.val := by
  classical
  have hdrop : ∀ i : S16x128.Idx, reduces_S16x128_S16.drop i = ix1 r ↔ i 0 = r := by
    intro i
    have hv : (reduces_S16x128_S16.drop i (0 : Fin 1)).val = (i 0).val := Shape.Reduces.drop_apply_val_of_eq _ i 0 0
    constructor
    · intro e
      exact Fin.ext (hv.symm.trans (congrArg (fun k : S16.Idx => (k 0).val) e))
    · intro e
      funext d
      fin_cases d
      exact Fin.ext (hv.trans (congrArg Fin.val e))
  show Ideal.reduceIndex .argMax 1 reduces_S16x128_S16 x (ix1 r) = _
  unfold Ideal.reduceIndex
  dsimp only
  refine lane_of_set _ r l fun i => ?_
  refine (mem_sub _ _ _ _).trans ?_
  constructor
  · rintro ⟨hi, hmax⟩
    have hi := (hdrop i).1 ((mem_sub _ _ _ _).1 hi).2
    obtain ⟨l', rfl⟩ : ∃ l' : Fin 128, i = ix2 r l' := ⟨i 1, by rw [← hi]; exact eq_ix2 i⟩
    by_contra hne
    have hl : l' ≠ l := fun e => hne (by rw [e])
    have := hmax (ix2 r l) ((mem_sub _ _ _ _).2 ⟨Finset.mem_univ _, (hdrop _).2 rfl⟩)
    rw [if_pos rfl] at this
    exact this (h r l' (.inr hl))
  · rintro rfl
    refine ⟨(mem_sub _ _ _ _).2 ⟨Finset.mem_univ _, (hdrop _).2 rfl⟩, fun i' hi' => ?_⟩
    have hi' := (hdrop i').1 ((mem_sub _ _ _ _).1 hi').2
    obtain ⟨l', rfl⟩ : ∃ l' : Fin 128, i' = ix2 r l' := ⟨i' 1, by rw [← hi']; exact eq_ix2 i'⟩
    rw [if_pos rfl, not_lt]
    by_cases hl : l' = l
    · rw [hl]
    · exact (h r l' (.inr hl)).le

/-- Where `(r, l)` is the top, the rows' maxima and argmaxima have it as their winner. -/
theorem win_rows (x : FVec Ideal S16x128 .f32) (r : Fin 16) (l : Fin 128) (h : Top x r l) :
    Win (rowMax x) (rowArg x) (x (ix2 r l)) (BitVec.ofNat 32 (128 * r.val + l.val)) := by
  have hself : rowMax x (ix2 r 0) = x (ix2 r l) := by
    rw [rowMax_apply]
    refine le_antisymm ?_ ((Finset.le_fold_max _).2 (.inr ⟨l, Finset.mem_univ _, le_refl _⟩))
    refine (Finset.fold_max_le _).2 ⟨(bot_lt_top x r l h).le, fun l' _ => ?_⟩
    by_cases hl : l' = l
    · rw [hl]
    · exact (h r l' (.inr hl)).le
  refine ⟨fun r' => ?_, ⟨ix2 r 0, hself⟩⟩
  obtain ⟨a, rfl⟩ := col_idx r'
  by_cases ha : a = r
  · right
    subst ha
    refine ⟨hself, ?_⟩
    show IntOp.addi (IntOp.muli (BitVec.ofNat 32 (0 * 16 + a.val)) 128#32)
      (shapeCast S16x1 (reduceIndex .argMax 1 S16 x reduces_S16x128_S16) shapeCasts_S16_S16x1 (ix2 a 0)) = _
    rw [col_apply, rowIndex_top x a l h]
    show BitVec.ofNat 32 (0 * 16 + a.val) * 128#32 + BitVec.ofNat 32 l.val = _
    refine BitVec.eq_of_toNat_eq ?_
    rw [BitVec.toNat_add, BitVec.toNat_mul, BitVec.toNat_ofNat, BitVec.toNat_ofNat, BitVec.toNat_ofNat, BitVec.toNat_ofNat]
    omega
  · left
    rw [rowMax_apply]
    exact (Finset.fold_max_lt _).2 ⟨bot_lt_top x r l h, fun l' _ => h a l' (.inl ha)⟩

/-- Where `(r, l)` is the top of the new minima, the choice is its number. -/
theorem pay5_top (a : FVec Ideal S16x128 .f32) (w : Vec Ideal S1x1x2048 .f32) (r : Fin 16) (l : Fin 128)
    (h : Top (k0_pay3 a w) r l) :
    clipW (extractAt ![0, 0, 0] (k0_pay5 rowNo a w) inpos_S1x1x1_p0_0_0) = BitVec.ofNat 32 (128 * r.val + l.val) := by
  have hw := win_half 1 _ _ slices_S2x1_o0_0_S1x1 slices_S2x1_o1_0_S1x1 _ _
    (win_half 2 _ _ slices_S4x1_o0_0_S2x1 slices_S4x1_o2_0_S2x1 _ _
      (win_half 4 _ _ slices_S8x1_o0_0_S4x1 slices_S8x1_o4_0_S4x1 _ _
        (win_half 8 _ _ slices_S16x1_o0_0_S8x1 slices_S16x1_o8_0_S8x1 _ _ (win_rows _ r l h))))
  have hc : ∀ p : S1x1.Idx, combined (rowMax (k0_pay3 a w)) (rowArg (k0_pay3 a w)) p = BitVec.ofNat 32 (128 * r.val + l.val) :=
    win_single _ _ _ _ hw
  have he : extractAt ![0, 0, 0] (k0_pay5 rowNo a w) inpos_S1x1x1_p0_0_0 = BitVec.ofNat 32 (128 * r.val + l.val) := by
    rw [pay5_eq]
    exact max_one _ _ (fun p => hc _) _
  rw [he]
  refine clipW_of_lt _ ?_
  rw [BitVec.toNat_ofNat]
  omega

end Cert.KernelIdeal.Hand

end
-- ==== Proof.Argmax.lean ====
/-
  The reference's argmax, over the extended reals: where one point's distance is above every other's, its argmax is that
  point.
-/
module

public import proofs.«01_k».proof.Proof.Steps
public import Idealize.ShloMosaic.Lib.ValueIdx
public import Idealize.ShloMosaic.PureOps.Ideal.Laws

@[expose] public section

set_option maxRecDepth 100000

noncomputable section

namespace Cert.Sampling

open Idealize.ShloMosaic Idealize.ShloMosaic.ValueIdx Cert.Pre_no_tie

/-- `g` is the one point of batch `b` whose distance is above every other's. -/
def Peak (d : FVec Ideal S8x2048 .f32) (b : Fin 8) (g : Fin 2048) : Prop := ∀ j : Fin 2048, j ≠ g → d (ix2 b j) < d (ix2 b g)

/-! ## The reducer -/

/-- The reducer's index on a pair. -/
abbrev best : EReal × BitVec 32 → EReal × BitVec 32 → EReal × BitVec 32 := reducer_argmax_f32_i32 (F := Ideal)

/-- The comparison of two extended reals, at the arguments the reducer has. -/
theorem fcmp (p : CmpFPredicate) (a b : EReal) : @FloatOps.cmpf Ideal _ .f32 p a b = Ideal.cmp p a b := rfl

/-- A lesser value on the left gives the right pair. -/
theorem best_of_lt (a p : EReal × BitVec 32) (h : a.1 < p.1) : best a p = p := by
  have h1 : ¬ p.1 < a.1 := not_lt.2 h.le
  have h2 : a.1 ≠ p.1 := h.ne
  simp [best, reducer_argmax_f32_i32, fcmp, Ideal.cmp, h1, h2, Scalar.select, IntOp.ori, IntOp.andi]

/-- A lesser value on the right gives the left pair. -/
theorem best_of_gt (a p : EReal × BitVec 32) (h : p.1 < a.1) : best a p = a := by
  have h2 : a.1 ≠ p.1 := h.ne'
  simp [best, reducer_argmax_f32_i32, fcmp, Ideal.cmp, h, h2, Scalar.select, IntOp.ori, IntOp.andi]

/-- A pair twice gives itself. -/
theorem best_self (a : EReal × BitVec 32) : best a a = a := by
  have h : ¬ a.2.slt a.2 := by simp [BitVec.slt]
  simp [best, reducer_argmax_f32_i32, fcmp, Ideal.cmp, Scalar.select]

/-- Of two pairs with lesser values than `v` the reducer's value is less than `v`. -/
theorem best_lt (a p : EReal × BitVec 32) (v : EReal) (ha : a.1 < v) (hp : p.1 < v) : (best a p).1 < v := by
  rcases lt_trichotomy a.1 p.1 with h | h | h
  · rw [best_of_lt a p h]; exact hp
  · simp [best, reducer_argmax_f32_i32, fcmp, Ideal.cmp, h, Scalar.select, hp]
  · rw [best_of_gt a p h]; exact ha

/-- The left fold of the reducer over a list in which every pair is `q` or has a lesser value, and `q` occurs, from a pair of
    a lesser value, is `q`. -/
theorem foldl_best (q : EReal × BitVec 32) (l : List (EReal × BitVec 32)) (a : EReal × BitVec 32)
    (hl : ∀ p ∈ l, p = q ∨ p.1 < q.1) (ha : a = q ∨ (a.1 < q.1 ∧ q ∈ l)) : l.foldl best a = q := by
  induction l generalizing a with
  | nil =>
    rcases ha with h | ⟨_, h⟩
    · exact h
    · cases h
  | cons p l ih =>
    rw [List.foldl_cons]
    refine ih _ (fun p' hp' => hl p' (List.mem_cons_of_mem _ hp')) ?_
    rcases hl p List.mem_cons_self with hp | hp
    · left
      rcases ha with h | ⟨h, _⟩
      · rw [hp, h, best_self]
      · rw [hp, best_of_lt a q h]
    · rcases ha with h | ⟨h, hm⟩
      · left; rw [h, best_of_gt q p hp]
      · right
        refine ⟨best_lt a p _ h hp, ?_⟩
        rcases List.mem_cons.1 hm with e | e
        · rw [← e] at hp; exact absurd hp (lt_irrefl _)
        · exact e

/-! ## The argmax -/

/-- The initial value is the least extended real. -/
theorem ofBits_neg_inf : Ideal.ofBits .f32 0xFF800000#32 = ⊥ := by simp [Ideal.ofBits, Ideal.ieee]

/-- Dropping the second coordinate. -/
theorem drop_second (h : S8x2048.ReducesTo [1] S8) (i : S8x2048.Idx) (b : Fin 8) :
    h.drop i = ix1 b ↔ i 0 = b := by
  have hv : (h.drop i (0 : Fin 1)).val = (i 0).val := Shape.ReducesTo.drop_apply_val_of_eq h i 0 0
  constructor
  · intro e
    exact Fin.ext (hv.symm.trans (congrArg (fun k : S8.Idx => (k 0).val) e))
  · intro e
    funext d
    fin_cases d
    exact Fin.ext (hv.trans (congrArg Fin.val e))

/-- Where one point's distance is above every other's, the argmax is that point. -/
theorem argmax_of_peak (d : FVec Ideal S8x2048 .f32) (b : Fin 8) (g : Fin 2048) (h : Peak d b g) :
    fn_argmax d (ix1 b) = BitVec.ofNat 32 g.val := by
  have hd : fn_argmax d (ix1 b) = (Host.argReduce best d (iotaInDim S8x2048 32 1) (constant S_ .f32 0xFF800000#32) (constantI S_ 32 0#32)
      Facts.reducesTo_S8x2048_S8_d1 Facts.h_S_ (ix1 b)).2 := rfl
  rw [hd, Ideal.argReduce_eq_reduce2, Host.reduce2_eq_foldl_fiber]
  have hq : (Host.argReduceFiber d (iotaInDim S8x2048 32 1) Facts.reducesTo_S8x2048_S8_d1 (ix1 b)).foldl best (⊥, 0#32)
      = (d (ix2 b g), BitVec.ofNat 32 g.val) := by
    refine foldl_best _ _ _ ?_ (.inr ⟨?_, ?_⟩)
    · intro p hp
      obtain ⟨n, hn, rfl⟩ := List.mem_map.1 hp
      have hdrop := (drop_second _ _ b).1 (of_decide_eq_true (List.mem_filter.1 hn).2)
      generalize S8x2048.rowMajor.symm n = i at hdrop
      obtain ⟨j, rfl⟩ : ∃ j : Fin 2048, i = ix2 b j := ⟨i 1, by rw [← hdrop]; exact eq_ix2 i⟩
      by_cases hj : j = g
      · left; rw [hj]; rfl
      · right; exact h j hj
    · have hne : ∃ j : Fin 2048, j ≠ g := by
        by_cases h0 : g = 0
        · exact ⟨1, by rw [h0]; decide⟩
        · exact ⟨0, fun e => h0 e.symm⟩
      obtain ⟨j, hj⟩ := hne
      exact lt_of_le_of_lt bot_le (h j hj)
    · refine List.mem_map.2 ⟨S8x2048.rowMajor (ix2 b g), ?_, ?_⟩
      · refine List.mem_filter.2 ⟨List.mem_finRange _, decide_eq_true ?_⟩
        rw [Equiv.symm_apply_apply]
        exact (drop_second _ _ b).2 rfl
      · rw [Equiv.symm_apply_apply]
        rfl
  have hi : ((constant S_ .f32 0xFF800000#32 : FVec Ideal S_ .f32) (Shape.Idx.first Facts.h_S_), constantI S_ 32 0#32 (Shape.Idx.first Facts.h_S_))
      = ((⊥ : EReal), 0#32) := Prod.ext ofBits_neg_inf rfl
  exact congrArg Prod.snd ((congrArg (fun a => (Host.argReduceFiber d (iotaInDim S8x2048 32 1)
    Facts.reducesTo_S8x2048_S8_d1 (ix1 b)).foldl best a) hi).trans hq)

end Cert.Sampling

end
-- ==== Proof.NoTie.lean ====
/-
  The precondition, over the extended reals: where it holds, at each of the 512 steps every batch has one point whose distance
  is above every other's.
-/
module

public import proofs.«01_k».proof.Proof.Argmax
public import Idealize.ShloMosaic.Lib.Pipeline.Value

@[expose] public section

set_option maxRecDepth 100000

noncomputable section

namespace Cert.Sampling

open Idealize.ShloMosaic Idealize.ShloMosaic.ValueIdx Cert.Pre_no_tie

/-- The greatest distance of each batch. -/
def greatest (d : FVec Ideal S8x2048 .f32) : FVec Ideal S8 .f32 :=
  Host.reduce FloatOps.maximumf d (constant S_ .f32 0xFF800000#32) Facts.reducesTo_S8x2048_S8_d1 Facts.h_S_

/-- The points whose distance is the greatest, as words 1 and 0. -/
def marks (d : FVec Ideal S8x2048 .f32) : IVec S8x2048 32 :=
  extui 32 (cmpf .oeq d (broadcastInDim S8x2048 ![0, 1] Facts.bcast_S8x1_S8x2048_0_1
    (broadcastInDim S8x1 ![0] Facts.bcast_S8_S8x1_0 (greatest d)))) Facts.natLt_1_32

/-- The bit that says whether the greatest distance of each batch occurs once. -/
def onceOf (d : FVec Ideal S8x2048 .f32) : IVec S8 1 :=
  cmpi .eq (Host.reduce IntOp.addi (marks d) (constantI S_ 32 0#32) Facts.reducesTo_S8x2048_S8_d1 Facts.h_S_)
    (broadcastInDim S8 ![] Facts.bcast_S_S8 (constantI S_ 32 1#32))

/-- The third part of a step: the bit before it, this bit, and one more. -/
theorem step_flag (D : Dists Ideal) (s : State Ideal) :
    ∃ r : IVec S8 1, (step D s).2.2 = andi (andi s.2.2 (onceOf (step D s).1)) r := ⟨_, rfl⟩

/-- The sum of the bits of a set of points is their number. -/
theorem fold_count {ι : Type} [DecidableEq ι] (p : ι → Prop) [DecidablePred p] (s : Finset ι) :
    s.fold IntOp.addi 0#32 (fun k => if p k then 1#32 else 0#32) = BitVec.ofNat 32 (s.filter p).card := by
  induction s using Finset.induction_on with
  | empty => rfl
  | insert a s ha ih =>
    rw [Finset.fold_insert ha, ih, Finset.filter_insert]
    by_cases hp : p a
    · rw [if_pos hp, if_pos hp, Finset.card_insert_of_notMem (fun h => ha (Finset.mem_of_mem_filter _ h))]
      show 1#32 + BitVec.ofNat 32 _ = _
      rw [Nat.add_comm, BitVec.ofNat_add]
    · rw [if_neg hp, if_neg hp]
      show 0#32 + BitVec.ofNat 32 _ = _
      rw [BitVec.zero_add]

theorem reduces_second : S8x2048.Reduces [1] S8 := by decide

/-- Index `b` with the second coordinate `j` inserted. -/
theorem lift_second (b : Fin 8) (j : Fin 2048) : reduces_second.lift (ix1 b) j = ix2 b j :=
  funext fun d => by fin_cases d <;> rfl

/-- Words that compare equal are equal. -/
theorem eq_of_cmpi {w : ℕ} {x y : BitVec w} (h : IntOp.cmpi .eq x y = 1#1) : x = y := by
  by_contra hne
  have : IntOp.cmpi .eq x y = 0#1 := by
    show BitVec.ofBool (x == y) = 0#1
    rw [beq_eq_false_iff_ne.2 hne]
    rfl
  rw [this] at h
  exact absurd h (by decide)

/-- Every distance is at most the greatest. -/
theorem le_greatest (d : FVec Ideal S8x2048 .f32) (b : Fin 8) (j : Fin 2048) : d (ix2 b j) ≤ greatest d (ix1 b) := by
  unfold greatest
  rw [Host.reduce_eq_fold_single _ _ _ _ reduces_second]
  refine (Finset.le_fold_max (d (ix2 b j))).2 (.inr ⟨j, Finset.mem_univ _, ?_⟩)
  exact le_of_eq (congrArg d (lift_second b j)).symm

/-- The mark of a point. -/
theorem marks_apply (d : FVec Ideal S8x2048 .f32) (b : Fin 8) (j : Fin 2048) :
    marks d (ix2 b j) = (open Classical in if d (ix2 b j) = greatest d (ix1 b) then 1#32 else 0#32) := by
  have e : (broadcastInDim S8x2048 ![0, 1] Facts.bcast_S8x1_S8x2048_0_1
      (broadcastInDim S8x1 ![0] Facts.bcast_S8_S8x1_0 (greatest d)) : FVec Ideal S8x2048 .f32) (ix2 b j) = greatest d (ix1 b) := by
    refine (broadcastInDim_apply _ _ _ _ (ix2 b 0) (by intro a; fin_cases a <;> rfl)).trans ?_
    exact broadcastInDim_apply _ _ _ _ (ix1 b) (by intro a; fin_cases a; rfl)
  unfold marks
  rw [extui_apply, cmpf_apply, e, fcmp]
  by_cases hj : d (ix2 b j) = greatest d (ix1 b)
  · simp [Ideal.cmp, hj]
  · simp [Ideal.cmp, hj]

/-- Where the bit is 1 the greatest distance occurs once. -/
theorem card_of_once (d : FVec Ideal S8x2048 .f32) (b : Fin 8) (h : onceOf d (ix1 b) = 1#1) :
    (open Classical in (Finset.univ.filter fun j : Fin 2048 => d (ix2 b j) = greatest d (ix1 b)).card) = 1 := by
  classical
  have h1 : Host.reduce IntOp.addi (marks d) (constantI S_ 32 0#32) Facts.reducesTo_S8x2048_S8_d1 Facts.h_S_ (ix1 b) = 1#32 :=
    eq_of_cmpi h
  rw [Host.reduce_eq_fold_single _ _ _ _ reduces_second] at h1
  have h2 : (Finset.univ : Finset (Fin 2048)).fold IntOp.addi 0#32
      (fun j => if d (ix2 b j) = greatest d (ix1 b) then 1#32 else 0#32) = 1#32 := by
    refine Eq.trans ?_ h1
    refine Finset.fold_congr fun j _ => ?_
    exact (marks_apply d b j).symm.trans (congrArg (marks d) (lift_second b j)).symm
  rw [fold_count] at h2
  have h3 := congrArg BitVec.toNat h2
  rw [BitVec.toNat_ofNat] at h3
  have h4 := Finset.card_filter_le (Finset.univ : Finset (Fin 2048)) (fun j => d (ix2 b j) = greatest d (ix1 b))
  rw [Finset.card_univ, Fintype.card_fin] at h4
  rw [Nat.mod_eq_of_lt (by omega)] at h3
  exact h3

/-- Where the bit is 1 one point's distance is above every other's. -/
theorem peak_of_once (d : FVec Ideal S8x2048 .f32) (b : Fin 8) (h : onceOf d (ix1 b) = 1#1) : ∃ g, Peak d b g := by
  classical
  obtain ⟨g, hg⟩ := Finset.card_eq_one.1 (card_of_once d b h)
  have hgM : d (ix2 b g) = greatest d (ix1 b) := by
    have hm : g ∈ ({g} : Finset (Fin 2048)) := Finset.mem_singleton_self g
    rw [← hg] at hm
    exact (Finset.mem_filter.1 hm).2
  refine ⟨g, fun j hj => ?_⟩
  rw [hgM]
  refine lt_of_le_of_ne (le_greatest d b j) fun e => hj ?_
  refine Finset.mem_singleton.1 ?_
  rw [← hg]
  exact Finset.mem_filter.2 ⟨Finset.mem_univ j, e⟩

/-- A conjunction of bits is 1 only where both are. -/
theorem andi_one {x y : BitVec 1} (h : IntOp.andi x y = 1#1) : x = 1#1 ∧ y = 1#1 := by
  unfold IntOp.andi at h
  revert x y
  decide

/-- Where the last bit of the state after `n` steps is 1, every earlier one is. -/
theorem flag_mono (D : Dists Ideal) (b : Fin 8) (n k : ℕ) (hk : k ≤ n) (h : (stateAt D n).2.2 (ix1 b) = 1#1) :
    (stateAt D k).2.2 (ix1 b) = 1#1 := by
  induction n with
  | zero => rw [Nat.le_zero.1 hk]; exact h
  | succ n ih =>
    rcases Nat.lt_or_ge n k with hlt | hge
    · rw [show k = n + 1 by omega]; exact h
    · refine ih hge ?_
      obtain ⟨r, hr⟩ := step_flag D (stateAt D n)
      rw [stateAt_succ, hr] at h
      exact (andi_one (andi_one h).1).1

/-- Where the precondition holds, at each of the 512 steps every batch has one point whose distance is above every other's. -/
theorem peak_at (D : Dists Ideal) (h : (stateAt D 512).2.2 = fun _ => 1#1) (b : Fin 8) (k : ℕ) (hk : k < 512) :
    ∃ g, Peak (stateAt D (k + 1)).1 b g := by
  have h1 := flag_mono D b 512 (k + 1) (by omega) (congrFun h _)
  obtain ⟨r, hr⟩ := step_flag D (stateAt D k)
  rw [stateAt_succ, hr] at h1
  rw [stateAt_succ]
  exact peak_of_once _ b (andi_one (andi_one h1).1).2

end Cert.Sampling

end
-- ==== Proof.Take.lean ====
/-
  The reference's row look-up: where the word is a point's number, it is that point's row of distances.
-/
module

public import proofs.«01_k».proof.Proof.Steps
public import Idealize.ShloMosaic.Lib.ValueIdxCore
public import Idealize.ShloMosaic.PureOps.Reduce
public import Idealize.ShloMosaic.Lib.Pipeline.Value

@[expose] public section

set_option maxRecDepth 100000

noncomputable section

namespace Cert.Sampling

open Idealize.ShloMosaic Idealize.ShloMosaic.ValueIdx Cert.Pre_no_tie

variable {F : FTy → Type} [FloatOps F]

/-- The gather of the look-up, at the start index `i`: row `i`, read signed and held within the rows. -/
theorem gather_row (D : Dists F) (i : IVec S8x1x1 32) (b : Fin 8) (j : Fin 2048) :
    Host.gather gather_S8x2048x2048_S8x1x1_S8x1x2048_2_1_0_0_1_2_112048 D i (ix3 b 0 j)
      = D (ix3 b ⟨min (i (ix3 b 0 0)).toInt.toNat 2047, by omega⟩ j) := by
  unfold Host.gather
  refine congrArg D (funext fun a => Fin.ext ?_)
  match a with
  | ⟨0, _⟩ => exact Nat.zero_add _
  | ⟨1, _⟩ =>
    have hsi : gather_S8x2048x2048_S8x1x1_S8x1x2048_2_1_0_0_1_2_112048.siIdx (ix3 b 0 j) ⟨0, by decide⟩ = ix3 b 0 0 := by
      funext d
      fin_cases d <;> rfl
    show min (i (gather_S8x2048x2048_S8x1x1_S8x1x2048_2_1_0_0_1_2_112048.siIdx (ix3 b 0 j) ⟨0, _⟩)).toInt.toNat 2047 + 0 + 0 = _
    rw [hsi]
    rfl
  | ⟨2, _⟩ => exact Nat.zero_add _

/-- A fold of ones under conjunction is one. -/
theorem fold_andi_one {ι : Type} (f : ι → BitVec 1) (s : Finset ι) (h : ∀ k ∈ s, f k = 1#1) : s.fold IntOp.andi 1#1 f = 1#1 := by
  classical
  induction s using Finset.induction_on with
  | empty => rfl
  | insert a s ha ih =>
    rw [Finset.fold_insert ha, h a (Finset.mem_insert_self _ _), ih fun k hk => h k (Finset.mem_insert_of_mem hk)]
    rfl

theorem reduces_third : S8x1x1.Reduces [2] S8x1 := by decide

/-- The look-up at a point's number is that point's row. -/
theorem take_row (D : Dists F) (i : IVec S8x1x1 32) (b : Fin 8) (j : Fin 2048) (w : Fin 2048)
    (hw : i (ix3 b 0 0) = BitVec.ofNat 32 w.val) : fn_take_along_axis D i (ix3 b 0 j) = D (ix3 b w j) := by
  have hint : (BitVec.ofNat 32 w.val).toInt = w.val := by
    rw [BitVec.toInt_eq_toNat_of_lt] <;> rw [BitVec.toNat_ofNat] <;> omega
  -- the wrapped start index is the index itself
  obtain ⟨v4, h4⟩ : ∃ v4 : IVec S8x1x1 32, v4 = select (cmpi .slt i (broadcastInDim S8x1x1 ![] Facts.bcast_S_S8x1x1 (constantI S_ 32 0#32)))
      (addi i (broadcastInDim S8x1x1 ![] Facts.bcast_S_S8x1x1 (constantI S_ 32 2048#32))) i := ⟨_, rfl⟩
  have e4 : v4 (ix3 b 0 0) = BitVec.ofNat 32 w.val := by
    rw [h4]
    show Scalar.select (BitVec.ofBool (BitVec.slt (i (ix3 b 0 0)) 0#32)) _ (i (ix3 b 0 0)) = _
    rw [hw]
    have : BitVec.slt (BitVec.ofNat 32 w.val) 0#32 = false := by
      rw [BitVec.slt, hint]; simp
    rw [this]
    rfl
  -- it is within the rows
  have hm : ∀ d : S8x1.Idx, d = ix2 b 0 → Host.reduce IntOp.andi
      (andi (cmpi .sge v4 (broadcastInDim S8x1x1 ![] Facts.bcast_S_S8x1x1 (constantI S_ 32 0#32)))
        (cmpi .sle v4 (broadcastInDim S8x1x1 ![0, 1, 2] Facts.bcast_S1x1x1_S8x1x1_0_1_2
          (broadcastInDim S1x1x1 ![2] Facts.bcast_S1_S1x1x1_2 (constantI S1 32 2047#32)))))
      (constantI S_ 1 1#1) Facts.reducesTo_S8x1x1_S8x1_d2 Facts.h_S_ d = 1#1 := by
    intro d hd
    rw [Host.reduce_eq_fold_single _ _ _ _ reduces_third]
    refine fold_andi_one _ _ fun k _ => ?_
    have hk : reduces_third.lift d k = ix3 b 0 0 := by
      rw [hd]
      funext a
      fin_cases a
      · rfl
      · rfl
      · exact Subsingleton.elim (α := Fin 1) _ _
    refine (congrArg _ hk).trans ?_
    show IntOp.andi (BitVec.ofBool (BitVec.sle 0#32 (v4 (ix3 b 0 0)))) (BitVec.ofBool (BitVec.sle (v4 (ix3 b 0 0)) 2047#32)) = 1#1
    rw [e4]
    have h0 : BitVec.sle 0#32 (BitVec.ofNat 32 w.val) = true := by
      rw [BitVec.sle, hint]; simp
    have h1 : BitVec.sle (BitVec.ofNat 32 w.val) 2047#32 = true := by
      rw [BitVec.sle, hint, show (2047#32 : BitVec 32).toInt = 2047 by decide]
      exact decide_eq_true (by omega)
    rw [h0, h1]
    rfl
  have hval : fn_take_along_axis D i (ix3 b 0 j) = Scalar.select (Host.reduce IntOp.andi
      (andi (cmpi .sge v4 (broadcastInDim S8x1x1 ![] Facts.bcast_S_S8x1x1 (constantI S_ 32 0#32)))
        (cmpi .sle v4 (broadcastInDim S8x1x1 ![0, 1, 2] Facts.bcast_S1x1x1_S8x1x1_0_1_2
          (broadcastInDim S1x1x1 ![2] Facts.bcast_S1_S1x1x1_2 (constantI S1 32 2047#32)))))
      (constantI S_ 1 1#1) Facts.reducesTo_S8x1x1_S8x1_d2 Facts.h_S_ (ix2 b 0))
      (Host.gather gather_S8x2048x2048_S8x1x1_S8x1x2048_2_1_0_0_1_2_112048 D v4 (ix3 b 0 j)) (FloatOps.ofBits .f32 0x7FC00000#32) := by
    rw [h4]
    refine congrArg (fun z => Scalar.select z _ _) ?_
    exact broadcastInDim_apply _ _ _ _ (ix2 b 0) (by intro a; fin_cases a <;> rfl)
  rw [hval, hm _ rfl]
  refine (gather_row D v4 b j).trans (congrArg (fun r => D (ix3 b r j)) (Fin.ext ?_))
  show min (v4 (ix3 b 0 0)).toInt.toNat 2047 = w.val
  rw [e4, hint]
  omega

end Cert.Sampling

end
-- ==== Proof.KernelSteps.lean ====
/-
  The kernel's trips against the reference's steps, over the extended reals: on equal distances, and where every step has one
  farthest point, both carry the same minima and take the same points.
-/
module

public import proofs.«01_k».proof.Proof.KernelIdealBody
public import proofs.«01_k».proof.Proof.KernelPick
public import proofs.«01_k».proof.Proof.Argmax
public import proofs.«01_k».proof.Proof.NoTie
public import proofs.«01_k».proof.Proof.Take

@[expose] public section

set_option maxRecDepth 100000

noncomputable section

namespace Cert.KernelIdeal.Hand

open Cert.KernelIdeal Cert.KernelIdeal.Gen
open Idealize.ShloMosaic Idealize.ShloMosaic.ValueIdx
open Cert.Sampling (Dists State Peak stateAt)

/-- The point at row `r`, lane `l` of the sixteen rows of 128. -/
def pt (r : Fin 16) (l : Fin 128) : Fin 2048 := ⟨128 * r.val + l.val, by omega⟩

/-- The row the kernel looks up for its first batch. -/
theorem row0_apply (D : S2x2048x2048.Idx → EReal) (w : BitVec 32) (h : w.toNat < 2048) (j : Fin 2048) :
    row0 (F := Ideal) D w (ix3 0 0 j) = D (ix3 0 ⟨w.toNat, h⟩ j) := by
  unfold row0
  rw [dif_pos (chk1_of_lt w h)]
  refine congrArg D (funext fun a => ?_)
  fin_cases a
  · exact Fin.ext (show 0 + 1 * 0 = 0 by omega)
  · exact Fin.ext (show w.toNat + 1 * 0 = w.toNat by omega)
  · exact Fin.ext (show 0 + 1 * j.val = j.val by omega)

/-- The row the kernel looks up for its second batch. -/
theorem row1_apply (D : S2x2048x2048.Idx → EReal) (w : BitVec 32) (h : w.toNat < 2048) (j : Fin 2048) :
    row1 (F := Ideal) D w (ix3 0 0 j) = D (ix3 1 ⟨w.toNat, h⟩ j) := by
  unfold row1
  rw [dif_pos (chk2_of_lt w h)]
  refine congrArg D (funext fun a => ?_)
  fin_cases a
  · exact Fin.ext (show 1 + 1 * 0 = 1 by omega)
  · exact Fin.ext (show w.toNat + 1 * 0 = w.toNat by omega)
  · exact Fin.ext (show 0 + 1 * j.val = j.val by omega)

/-- The kernel's new minima, at a row and lane. -/
theorem pay3_apply (a : FVec Ideal S16x128 .f32) (v : Vec Ideal S1x1x2048 .f32) (r : Fin 16) (l : Fin 128) :
    k0_pay3 a v (ix2 r l) = min (a (ix2 r l)) (v (ix3 0 0 (pt r l))) := by
  have h1 : (shapeCast S16x128 (shapeCast S1x2048 v shapeCasts_S1x1x2048_S1x2048) shapeCasts_S1x2048_S16x128 : FVec Ideal S16x128 .f32) (ix2 r l)
      = v (ix3 0 0 (pt r l)) := by
    refine (shapeCast_apply _ _ _ (ix2 0 (pt r l)) ?_).trans
      ((shapeCast_dropUnit_apply ![1, 2048] v _ (ix2 0 (pt r l))).trans (congrArg v (funext fun a => by fin_cases a <;> rfl)))
    have e1 : (S16x128.rowMajor (ix2 r l)).val = r.val * 128 + l.val := Shape.rowMajor_val_two (ix2 r l)
    have e2 : (S1x2048.rowMajor (ix2 0 (pt r l))).val = 0 * 2048 + (128 * r.val + l.val) := Shape.rowMajor_val_two (ix2 0 (pt r l))
    exact e2.trans (Eq.trans (by omega) e1.symm)
  exact congrArg (fun u : EReal => min (a (ix2 r l)) u) h1

/-- The reference's new minima, at a batch and point: the row looked up is the one at the point taken. -/
theorem step_dists_apply (R : Dists Ideal) (s : State Ideal) (b : Fin 8) (j w : Fin 2048) (hw : s.2.1 (ix1 b) = BitVec.ofNat 32 w.val) :
    (Cert.Sampling.step R s).1 (ix2 b j) = min (s.1 (ix2 b j)) (R (ix3 b w j)) := by
  rw [Cert.Sampling.step_dists]
  refine congrArg (fun u : EReal => min (s.1 (ix2 b j)) u) ?_
  refine (shapeCast_apply _ _ _ (ix3 b 0 j) ?_).trans (Cert.Sampling.take_row R _ b j w ?_)
  · have e1 : (Cert.Pre_no_tie.S8x2048.rowMajor (ix2 b j)).val = b.val * 2048 + j.val := Shape.rowMajor_val_two (ix2 b j)
    have e2 : (Cert.Pre_no_tie.S8x1x2048.rowMajor (ix3 b 0 j)).val = (b.val * 1 + 0) * 2048 + j.val := Shape.rowMajor_val_three (ix3 b 0 j)
    exact e2.trans (Eq.trans (by omega) e1.symm)
  · exact (broadcastInDim_apply _ _ _ _ (ix1 b) (by intro a; fin_cases a; rfl)).trans hw

/-- The kernel's minima `x` and point `w` of a batch are the reference's at its batch `b`. -/
def Agree (x : FVec Ideal S16x128 .f32) (w : BitVec 32) (s : State Ideal) (b : Fin 8) : Prop :=
  (∀ r l, x (ix2 r l) = s.1 (ix2 b (pt r l))) ∧ w = s.2.1 (ix1 b)

/-- A point is its row's number and its lane. -/
theorem pt_surj (g : Fin 2048) : ∃ r l, pt r l = g :=
  ⟨⟨g.val / 128, by omega⟩, ⟨g.val % 128, by omega⟩, Fin.ext (by show 128 * (g.val / 128) + g.val % 128 = g.val; omega)⟩

/-- Different rows or lanes are different points. -/
theorem pt_ne (r r' : Fin 16) (l l' : Fin 128) (h : r' ≠ r ∨ l' ≠ l) : pt r' l' ≠ pt r l := fun e => by
  have e' : 128 * r'.val + l'.val = 128 * r.val + l.val := congrArg Fin.val e
  rcases h with h | h <;> exact h (Fin.ext (by omega))

/-- One trip and one step keep the agreement, where the row looked up is the reference's and the step has one farthest point. -/
theorem agree_step (R : Dists Ideal) (s : State Ideal) (b : Fin 8) (a : FVec Ideal S16x128 .f32) (w : BitVec 32)
    (v : Vec Ideal S1x1x2048 .f32) (hlt : w.toNat < 2048) (ha : Agree a w s b)
    (hv : ∀ j, v (ix3 0 0 j) = R (ix3 b ⟨w.toNat, hlt⟩ j)) (g : Fin 2048) (hg : Peak (Cert.Sampling.step R s).1 b g) :
    Agree (k0_pay3 a v) (clipW (extractAt ![0, 0, 0] (k0_pay5 rowNo a v) inpos_S1x1x1_p0_0_0)) (Cert.Sampling.step R s) b := by
  have hd : ∀ r l, k0_pay3 a v (ix2 r l) = (Cert.Sampling.step R s).1 (ix2 b (pt r l)) := fun r l => by
    rw [step_dists_apply R s b (pt r l) ⟨w.toNat, hlt⟩ (ha.2.symm.trans (BitVec.eq_of_toNat_eq (by simp))), ← hv, ← ha.1 r l]
    exact pay3_apply a v r l
  refine ⟨hd, ?_⟩
  obtain ⟨r, l, rfl⟩ := pt_surj g
  have ht : Top (k0_pay3 a v) r l := fun r' l' h => by
    rw [hd, hd]; exact hg _ (pt_ne r r' l l' h)
  rw [pay5_top a v r l ht, Cert.Sampling.step_point]
  exact (Cert.Sampling.argmax_of_peak _ b (pt r l) hg).symm

/-- Before the first trip the two agree. -/
theorem agree_start (b : Fin 8) : Agree k0_pay2 0#32 (Cert.Sampling.start (F := Ideal)) b := ⟨fun _ _ => rfl, rfl⟩

/-- One trip of the kernel, from the carried values before it. -/
theorem st_succ (D : S2x2048x2048.Idx → EReal) (k : ℕ) : st (F := Ideal) D (k + 1) = trip (F := Ideal) D (st (F := Ideal) D k) := rfl

/-- The first batch's minima after a trip. -/
theorem trip_dists0 (D : S2x2048x2048.Idx → EReal) (s : Carry Ideal) :
    (trip (F := Ideal) D s).1 = k0_pay3 s.1 (row0 (F := Ideal) D s.2.1) := by rw [trip]

/-- The first batch's point after a trip. -/
theorem trip_point0 (D : S2x2048x2048.Idx → EReal) (s : Carry Ideal) :
    (trip (F := Ideal) D s).2.1 = clipW (extractAt ![0, 0, 0] (k0_pay5 rowNo s.1 (row0 (F := Ideal) D s.2.1)) inpos_S1x1x1_p0_0_0) := by
  rw [trip]

/-- The second batch's minima after a trip: the same function as the first's. -/
theorem trip_dists1 (D : S2x2048x2048.Idx → EReal) (s : Carry Ideal) :
    (trip (F := Ideal) D s).2.2.1 = k0_pay3 s.2.2.1 (row1 (F := Ideal) D s.2.2.2) := by
  rw [trip, pay6_eq]

/-- The second batch's point after a trip: the same function as the first's. -/
theorem trip_point1 (D : S2x2048x2048.Idx → EReal) (s : Carry Ideal) :
    (trip (F := Ideal) D s).2.2.2 = clipW (extractAt ![0, 0, 0] (k0_pay5 rowNo s.2.2.1 (row1 (F := Ideal) D s.2.2.2)) inpos_S1x1x1_p0_0_0) := by
  rw [trip, pay8_eq]

/-- One trip keeps the first batch's agreement. -/
theorem agree0_trip (D : S2x2048x2048.Idx → EReal) (R : Dists Ideal) (b : Fin 8) (hD : ∀ p q, D (ix3 0 p q) = R (ix3 b p q))
    (s : Carry Ideal) (z : State Ideal) (hlt : s.2.1.toNat < 2048) (ha : Agree s.1 s.2.1 z b) (g : Fin 2048)
    (hg : Peak (Cert.Sampling.step R z).1 b g) :
    Agree (trip (F := Ideal) D s).1 (trip (F := Ideal) D s).2.1 (Cert.Sampling.step R z) b := by
  rw [trip_dists0, trip_point0]
  have h := agree_step R z b s.1 s.2.1 (row0 (F := Ideal) D s.2.1) hlt ha (fun j => (row0_apply D _ hlt j).trans (hD _ j)) g hg
  exact h

/-- One trip keeps the second batch's agreement. -/
theorem agree1_trip (D : S2x2048x2048.Idx → EReal) (R : Dists Ideal) (b : Fin 8) (hD : ∀ p q, D (ix3 1 p q) = R (ix3 b p q))
    (s : Carry Ideal) (z : State Ideal) (hlt : s.2.2.2.toNat < 2048) (ha : Agree s.2.2.1 s.2.2.2 z b) (g : Fin 2048)
    (hg : Peak (Cert.Sampling.step R z).1 b g) :
    Agree (trip (F := Ideal) D s).2.2.1 (trip (F := Ideal) D s).2.2.2 (Cert.Sampling.step R z) b := by
  rw [trip_dists1, trip_point1]
  have h := agree_step R z b s.2.2.1 s.2.2.2 (row1 (F := Ideal) D s.2.2.2) hlt ha (fun j => (row1_apply D _ hlt j).trans (hD _ j)) g hg
  exact h

/-- The first batch's carried values are the reference's. -/
theorem agree0 (D : S2x2048x2048.Idx → EReal) (R : Dists Ideal) (b : Fin 8) (hD : ∀ p q, D (ix3 0 p q) = R (ix3 b p q))
    (hR : (stateAt R 512).2.2 = fun _ => 1#1) (k : ℕ) (hk : k ≤ 512) :
    Agree (st (F := Ideal) D k).1 (st (F := Ideal) D k).2.1 (stateAt R k) b := by
  induction k with
  | zero => exact agree_start b
  | succ k ih =>
    obtain ⟨g, hg⟩ := Cert.Sampling.peak_at R hR b k (by omega)
    rw [Cert.Sampling.stateAt_succ] at hg ⊢
    rw [st_succ]
    exact agree0_trip D R b hD _ _ (st_lt (F := Ideal) D k).1 (ih (by omega)) g hg

/-- The second batch's carried values are the reference's. -/
theorem agree1 (D : S2x2048x2048.Idx → EReal) (R : Dists Ideal) (b : Fin 8) (hD : ∀ p q, D (ix3 1 p q) = R (ix3 b p q))
    (hR : (stateAt R 512).2.2 = fun _ => 1#1) (k : ℕ) (hk : k ≤ 512) :
    Agree (st (F := Ideal) D k).2.2.1 (st (F := Ideal) D k).2.2.2 (stateAt R k) b := by
  induction k with
  | zero => exact agree_start b
  | succ k ih =>
    obtain ⟨g, hg⟩ := Cert.Sampling.peak_at R hR b k (by omega)
    rw [Cert.Sampling.stateAt_succ] at hg ⊢
    rw [st_succ]
    exact agree1_trip D R b hD _ _ (st_lt (F := Ideal) D k).2 (ih (by omega)) g hg

/-- What the kernel records for batch `i` of its block, which is the reference's batch `b`, is the point of the reference's step. -/
theorem picks_eq (D : S2x2048x2048.Idx → EReal) (R : Dists Ideal) (i : Fin 2) (b : Fin 8) (hD : ∀ p q, D (ix3 i p q) = R (ix3 b p q))
    (hR : (stateAt R 512).2.2 = fun _ => 1#1) (k : Fin 512) : picks (F := Ideal) D (ix3 i k 0) = (stateAt R k.val).2.1 (ix1 b) := by
  fin_cases i
  · exact (if_pos (show (0 : Fin 2).val = 0 from rfl)).trans (agree0 D R b hD hR k.val k.isLt.le).2
  · exact (if_neg (show ¬(1 : Fin 2).val = 0 by decide)).trans (agree1 D R b hD hR k.val k.isLt.le).2

end Cert.KernelIdeal.Hand

end
-- ==== Proof.KernelValue.lean ====
/-
  The kernel's result, over the extended reals: where every step has one farthest point, the array holds the reference's
  points, batch by batch and step by step.
-/
module

public import proofs.«01_k».proof.Proof.KernelArrays
public import proofs.«01_k».proof.Proof.KernelSteps

@[expose] public section

set_option maxRecDepth 100000

noncomputable section

namespace Cert.KernelIdeal.Hand

open Cert.KernelIdeal Cert.KernelIdeal.Gen
open Idealize.ShloMosaic hiding ix1 ix2 ix3
open Idealize.ShloMosaic.TcCoe Idealize.ShloMosaic.Tactic Idealize.ShloMosaic.ValueIdx
open Idealize.SL.Sem
open Cert.Sampling (points norms dists stateAt)

variable (m : (ℓ : Loc nD τ sig) → Buf (Elt Ideal) ℓ)

/-- The points taken on the reference's distances, as the region's result array. -/
def taken (c : Dev nD) : Vec Ideal S8x512x1 .i32 := fun j => (stateAt (dists (F := Ideal) (pts m c)) (j 1).val).2.1 (ix1 (j 0))

/-- The launch's arguments have one farthest point at every step, in every batch. -/
def Single (c : Dev nD) : Prop := (stateAt (dists (F := Ideal) (pts m c)) 512).2.2 = fun _ => 1#1

/-- What the body leaves at point `t` is the points taken in its two batches. -/
theorem outBlk_apply (c : Dev nD) (h : Single m c) (t : Fin cfg0.N) (i : Fin 2) (k : Fin 512) :
    outBlk m c t (ix3 i k 0) = taken m c (ix3 (bat t i) k 0) :=
  picks_eq _ _ i (bat t i) (dist_eq m c t i) h k

/-- Where an index of the output's block at point `t` lies in the array. -/
theorem blk2_emb (t : Fin cfg0.N) (y : S2x512x1.Idx) :
    ((win0_2.blk t).view.emb y : S8x512x1.Idx) = ix3 (bat t (y 0)) (y 1) 0 := by
  blk_ext [index2]
  · show t.val * 2 + (y 0).val = 2 * t.val + (y 0).val
    omega

/-- An index of the output's block by its coordinates. -/
theorem blk2_idx (y : S2x512x1.Idx) : y = ix3 (y 0) (y 1) 0 :=
  (ValueIdx.eq_ix3 y).trans (congrArg (ix3 (y 0) (y 1)) (Subsingleton.elim (α := Fin 1) _ _))

/-- The region's result array after the run. -/
theorem final2 (c : Dev nD) (h : Single m c) : (dats m 0 c).arrAt 2 cfg0.N = taken m c := by
  refine (dats m 0 c).arrAt_eq_of_covers 2 (taken m c) (by decide +kernel) fun t hf y => ?_
  blk_simp
  rw [after_w2]
  exact (congrArg (outBlk m c t) (blk2_idx y)).trans
    ((outBlk_apply m c h t (y 0) (y 1)).trans (congrArg (taken m c) (blk2_emb t y).symm))

/-- The result after the last line: the array without its last axis. -/
theorem result_eq (c : Dev nD) (h : Single m c) :
    Pipeline.afterTail₀ cfgs (dats m) 0 (V0 m) [hostOps1] c main_v8
      = (fun j => (stateAt (dists (F := Ideal) (pts m c)) (j 1).val).2.1 (ix1 (j 0)) : IVec S8x512 32) := by
  have hw : Pipeline.withArrays (cfgs 0).spec c (V0 m c) (fun w => (dats m 0 c).arrAt w (cfgs 0).N) (Proc.devRef .tc main_v7) = taken m c :=
    (Pipeline.withArrays_arr (cfgs 0).spec launch0.win.arr_inj c (V0 m c) (fun w => (dats m 0 c).arrAt w (cfgs 0).N) 2).trans (final2 m c h)
  unfold Pipeline.afterTail₀
  show StableHlo.after hostOps1 _ (Proc.devRef .tc main_v8) = _
  after_results
  rw [hw]
  funext j
  show shapeCast S8x512 (taken m c) shapeCasts_S8x512x1_S8x512 j = _
  refine (shapeCast_apply _ _ _ (ix3 (j 0) (j 1) 0) ?_).trans rfl
  have e1 : (S8x512.rowMajor j).val = (j 0).val * 512 + (j 1).val := Shape.rowMajor_val_two j
  have e2 : (S8x512x1.rowMajor (ix3 (j 0) (j 1) 0)).val = ((j 0).val * 512 + (j 1).val) * 1 + 0 := Shape.rowMajor_val_three (ix3 (j 0) (j 1) 0)
  exact e2.trans (Eq.trans (by omega) e1.symm)

/-- The kernel's runs end with the points taken on the reference's distances, the arguments as launched. -/
theorem run_value (ρ : Dev nD → PrngReg) (h : ∀ c, Single m c) :
    θ_run defs (onTc (τ := τ) (main (F := Ideal))) ⟨m, fun _ => 0, ρ⟩ (fun r => ∀ c : Dev nD,
      r.2.mem ((c.tc : Thread nD τ).loc main_v8)
        = (fun j => (stateAt (dists (F := Ideal) (pts m c)) (j 1).val).2.1 (ix1 (j 0)) : IVec S8x512 32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c =>
      ⟨((hr.1 c).2 main_v8 (Pipeline.mem_restRefs_of main_v8 (by decide) (by decide))).trans (result_eq m c (h c)),
       ((hr.1 c).2 main_arg0 (Pipeline.mem_restRefs_of main_arg0 (by decide) (by decide))).trans (W_main_arg0 m (dats m) c),
       ((hr.1 c).2 main_arg1 (Pipeline.mem_restRefs_of main_arg1 (by decide) (by decide))).trans (W_main_arg1 m (dats m) c)⟩)
    (run_main m ρ)

end Cert.KernelIdeal.Hand

end
-- ==== Proof.KernelRange.lean ====
/-
  Over the extended reals the kernel's choice is always a point's number: a row's argmax is a lane's number whatever the row
  holds, and combining by halves only picks among the rows' words. So the clip keeps every chosen word.
-/
module

public import proofs.«01_k».proof.Proof.KernelPick

@[expose] public section

set_option maxRecDepth 100000

noncomputable section

namespace Cert.KernelIdeal.Hand

open Cert.KernelIdeal Cert.KernelIdeal.Gen
open Idealize.ShloMosaic Idealize.ShloMosaic.ValueIdx

/-- The least lane of a set of indices, or zero, is a lane's number. -/
theorem lane_lt (s : Finset S16x128.Idx) : (BitVec.ofNat 32 ((s.image fun i => (i 1).val).min.getD 0)).toNat < 128 := by
  have h : ((s.image fun i => (i 1).val).min.getD 0) < 128 := by
    cases e : (s.image fun i => (i 1).val).min with
    | top => exact Nat.succ_pos 127
    | coe k =>
      obtain ⟨i, -, hi⟩ := Finset.mem_image.1 (Finset.mem_of_min e)
      have hk : (i 1).val < 128 := (i 1).isLt
      show k < 128
      omega
  rw [BitVec.toNat_ofNat]
  omega

/-- A row's argmax is a lane's number. -/
theorem rowIndex_lt (x : FVec Ideal S16x128 .f32) (r : S16.Idx) :
    (reduceIndex .argMax 1 S16 x reduces_S16x128_S16 r).toNat < 128 := by
  show (Ideal.reduceIndex .argMax 1 reduces_S16x128_S16 x r).toNat < 128
  unfold Ideal.reduceIndex
  exact lane_lt _

/-- The rows' words are points' numbers. -/
theorem rowArg_lt (x : FVec Ideal S16x128 .f32) (r : S16x1.Idx) : (rowArg x r).toNat < 2048 := by
  obtain ⟨a, rfl⟩ := col_idx r
  show (IntOp.addi (IntOp.muli (BitVec.ofNat 32 (0 * 16 + a.val)) 128#32)
    (shapeCast S16x1 (reduceIndex .argMax 1 S16 x reduces_S16x128_S16) shapeCasts_S16_S16x1 (ix2 a 0))).toNat < 2048
  rw [col_apply]
  have h := rowIndex_lt x (ix1 a)
  have ha := a.isLt
  generalize reduceIndex .argMax 1 S16 x reduces_S16x128_S16 (ix1 a) = w at h ⊢
  show (BitVec.ofNat 32 (0 * 16 + a.val) * 128#32 + w).toNat < 2048
  rw [BitVec.toNat_add, BitVec.toNat_mul, BitVec.toNat_ofNat, BitVec.toNat_ofNat]
  omega

/-- Combining by halves keeps a bound on the words. -/
theorem halfI_lt (n : ℕ) (v : FVec Ideal (Col (n + n)) .f32) (i : IVec (Col (n + n)) 32)
    (hl : (Col (n + n)).Slices ![0, 0] (Col n)) (hu : (Col (n + n)).Slices ![n, 0] (Col n)) (B : ℕ)
    (h : ∀ r, (i r).toNat < B) (r : (Col n).Idx) : (halfI n v i hl hu r).toNat < B := by
  classical
  obtain ⟨a, rfl⟩ := col_idx r
  have e : halfI n v i hl hu (ix2 a 0) = if v (ix2 ⟨0 + a.val, by omega⟩ 0) < v (ix2 ⟨n + a.val, by omega⟩ 0)
      then i (ix2 ⟨n + a.val, by omega⟩ 0) else i (ix2 ⟨0 + a.val, by omega⟩ 0) := by
    refine (half_row _ _ _ _).trans ?_
    rw [slice_apply n n v hu a (by omega), slice_apply n 0 v hl a (by omega), slice_apply n n i hu a (by omega),
      slice_apply n 0 i hl a (by omega)]
  rw [e]
  split
  · exact h _
  · exact h _

/-- The chosen word is a point's number, whatever the minima are. -/
theorem pay5_lt (a : FVec Ideal S16x128 .f32) (w : Vec Ideal S1x1x2048 .f32) :
    (extractAt ![0, 0, 0] (k0_pay5 rowNo a w) inpos_S1x1x1_p0_0_0).toNat < 2048 := by
  have hc : ∀ p, (combined (rowMax (k0_pay3 a w)) (rowArg (k0_pay3 a w)) p).toNat < 2048 :=
    halfI_lt 1 _ _ slices_S2x1_o0_0_S1x1 slices_S2x1_o1_0_S1x1 _
      (halfI_lt 2 _ _ slices_S4x1_o0_0_S2x1 slices_S4x1_o2_0_S2x1 _
        (halfI_lt 4 _ _ slices_S8x1_o0_0_S4x1 slices_S8x1_o4_0_S4x1 _
          (halfI_lt 8 _ _ slices_S16x1_o0_0_S8x1 slices_S16x1_o8_0_S8x1 _ (rowArg_lt _))))
  have h1 : ∀ p : S1x1.Idx, p = ix2 0 0 := fun p => funext fun d => by
    fin_cases d
    · exact Subsingleton.elim (α := Fin 1) _ _
    · exact Subsingleton.elim (α := Fin 1) _ _
  have he : extractAt ![0, 0, 0] (k0_pay5 rowNo a w) inpos_S1x1x1_p0_0_0
      = combined (rowMax (k0_pay3 a w)) (rowArg (k0_pay3 a w)) (ix2 0 0) := by
    rw [pay5_eq]
    exact max_one _ _ (fun p => congrArg (combined _ _) (h1 _)) _
  rw [he]
  exact hc _

/-- One trip without the clip: over the extended reals it is the trip with it. -/
theorem trip_unclipped (D : S2x2048x2048.Idx → Elt Ideal .f32) (s : Carry Ideal) :
    trip (F := Ideal) D s =
      (k0_pay3 s.1 (row0 (F := Ideal) D s.2.1),
       extractAt ![0, 0, 0] (k0_pay5 rowNo s.1 (row0 (F := Ideal) D s.2.1)) inpos_S1x1x1_p0_0_0,
       k0_pay6 s.2.2.1 (row1 (F := Ideal) D s.2.2.2),
       extractAt ![0, 0, 0] (k0_pay8 rowNo s.2.2.1 (row1 (F := Ideal) D s.2.2.2)) inpos_S1x1x1_p0_0_0) := by
  rw [trip, pay8_eq, clipW_of_lt _ (pay5_lt s.1 _), clipW_of_lt _ (pay5_lt s.2.2.1 _)]

end Cert.KernelIdeal.Hand

end
-- ==== Proof.VersionTrip.lean ====
/-
  One trip of the loop of the version as it stands, with no clip on the chosen points, over the extended reals.
  The clip keeps every word the choice can give there, so the carried values and the record are those of the clipped kernel.
-/
module

public import proofs.«01_k».proof.Proof.Gen.VersionIdeal.Frame
public import proofs.«01_k».proof.Proof.Gen.VersionIdeal.Skeleton
public import proofs.«01_k».proof.Proof.Gen.VersionIdeal.Loops
public import proofs.«01_k».proof.Proof.KernelRange
public import Idealize.ShloMosaic.Lib.Pipeline.Frame
public import Idealize.ShloMosaic.Lib.Pipeline.FrameBody
public import Idealize.ShloMosaic.Lib.Tactic
public import Idealize.ShloMosaic.Lib.WritesUnit

@[expose] public section

set_option maxRecDepth 16384

noncomputable section

namespace Cert.VersionIdeal.Hand

open Cert.VersionIdeal Cert.VersionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Hand (st st_lt trip trip_unclipped row0 row1 rowNo Recorded recorded_succ chk1_of_lt chk2_of_lt)

local notation "𝕄" => MT nD τ sig Unit (Elt Ideal) ℕ (UR sig nD τ) ℕ

/-- The carried values after the trip from `(d0, w0, d1, w1)`, as this version's own operations form them. -/
theorem trip_eq (D : S2x2048x2048.Idx → Elt Ideal .f32) (d0 : FVec Ideal S16x128 .f32) (w0 : BitVec 32)
    (d1 : FVec Ideal S16x128 .f32) (w1 : BitVec 32) (h1 : k0_chk1 w0) (h2 : k0_chk2 w1) :
    trip (F := Ideal) D (d0, w0, d1, w1) =
      (k0_pay6 d0 (View.ld D (Rect.unit (s := S2x2048x2048) (k0_off1 w0) S1x1x2048.size (k0_off1_inb w0 h1))),
       extractAt ![0, 0, 0] (k0_pay8 rowNo d0
         (View.ld D (Rect.unit (s := S2x2048x2048) (k0_off1 w0) S1x1x2048.size (k0_off1_inb w0 h1)))) inpos_S1x1x1_p0_0_0,
       k0_pay3 d1 (View.ld D (Rect.unit (s := S2x2048x2048) (k0_off3 w1) S1x1x2048.size (k0_off3_inb w1 h2))),
       extractAt ![0, 0, 0] (k0_pay5 d1
         (View.ld D (Rect.unit (s := S2x2048x2048) (k0_off3 w1) S1x1x2048.size (k0_off3_inb w1 h2)))) inpos_S1x1x1_p0_0_0) := by
  have e0 : row0 (F := Ideal) D w0
      = View.ld D (Rect.unit (s := S2x2048x2048) (k0_off1 w0) S1x1x2048.size (k0_off1_inb w0 h1)) := dif_pos h1
  have e1 : row1 (F := Ideal) D w1
      = View.ld D (Rect.unit (s := S2x2048x2048) (k0_off3 w1) S1x1x2048.size (k0_off3_inb w1 h2)) := dif_pos h2
  rw [trip_unclipped, ← e0, ← e1]
  rfl

set_option warn.classDefReducibility false in
/-- The loop's invariant: the distance matrix stays, the output holds the points recorded so far, and the carried values
    are the clipped kernel's iterate. -/
@[sl_loop] def tripInv (c : Dev nD) (i : grid0.Coords) (arg1 : Memref sig .tc .vmem S2x131x2048 .f32) (harg1 : arg1.IsWhole)
    (arg2 : Memref sig .tc .vmem S2x1x2048 .f32) (harg2 : arg2.IsWhole) (arg3 : Memref sig .tc .vmem S2x512x1 .i32) (harg3 : arg3.IsWhole)
    (arg4 : Memref sig .tc .vmem S2x2048x2048 .f32) (harg4 : arg4.IsWhole)
    (g4 : Buf (Elt Ideal) (arg4.view.loc (c : Thread nD τ))) :
    LoopInvTy_k0_t1 (F := Ideal) Unit ℕ (UR sig nD τ) ℕ Variants.none c none Set.univ i arg1 harg1 arg2 harg2 arg3 harg3 arg4 harg4
      (iota .tc S16x1 32 [0] iota_S16x1_d0_w32) (k0_pay2 (F := Ideal), 0#32, k0_pay2 (F := Ideal), 0#32) where
  inv k acc := iprop((arg4.view.loc (c : Thread nD τ) ↦[arg4.view.set]{fullShare} g4)
    ∗ (∃ f3, (arg3.view.loc (c : Thread nD τ) ↦[arg3.view.set]{fullShare} f3)
        ∗ ⌜Recorded (F := Ideal) (arg4.view.read (Elt Ideal) g4) k (arg3.view.read (Elt Ideal) f3)⌝)
    ∗ ⌜acc = st (F := Ideal) (arg4.view.read (Elt Ideal) g4) k⌝)
  step k acc := by
    unfold k0_t1_body
    iintro ⟨H4, ⟨%f3, H3, %hr⟩, %hacc⟩
    subst hacc
    have hl := st_lt (F := Ideal) (arg4.view.read (Elt Ideal) g4) k
    generalize hs : st (F := Ideal) (arg4.view.read (Elt Ideal) g4) k.val = s at hl ⊢
    obtain ⟨d0, w0, d1, w1⟩ := s
    have h1 : k0_chk1 w0 := chk1_of_lt _ hl.1
    have h2 : k0_chk2 w1 := chk2_of_lt _ hl.2
    sl_exec
    sl_step
    isplitl [H4]; · iexact H4
    isplitl [H3]
    · iexists _
      isplitl [H3]; · iexact H3
      ipureintro
      have := recorded_succ (F := Ideal) _ arg3.view f3 k hr
      rw [hs] at this
      exact this
    ipureintro
    show _ = trip (F := Ideal) _ (st (F := Ideal) _ k.val)
    rw [hs]
    exact (trip_eq _ d0 w0 d1 w1 h1 h2).symm

end Cert.VersionIdeal.Hand

end
-- ==== Proof.VersionBody.lean ====
/-
  One block of the grid of the version as it stands, over the extended reals: the two distance matrices are formed in the
  scratch, the loop runs on them, and the output block is left holding the clipped kernel's points on the same matrices.
-/
module

public import proofs.«01_k».proof.Proof.VersionTrip
public import proofs.«01_k».proof.Proof.KernelIdealBody

@[expose] public section

set_option maxRecDepth 16384

noncomputable section

namespace Cert.VersionIdeal.Hand

open Cert.VersionIdeal Cert.VersionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Hand (st Recorded xs0 xs1 ns0 ns1 slabs slabs_cover dist picks eq_picks)

local notation "𝕄" => MT nD τ sig Unit (Elt Ideal) ℕ (UR sig nD τ) ℕ

/-- The two matrices as this version's own operations form and store them are those of the clipped kernel. -/
theorem slabs_eq (X : Vec Ideal S2x131x2048 .f32) (N : Vec Ideal S2x1x2048 .f32) :
    slabs (F := Ideal) X N =
      [⟨Rect.unit (s := S2x2048x2048) ![1, 0, 0] S1x2048x2048.size inb_S2x2048x2048_S1x2048x2048_1_0_0,
          k0_pay1 (k0_pay10 (xs1 X) (xs1 X)) (k0_pay11 (ns1 N)) (ns1 N)⟩,
       ⟨Rect.unit (s := S2x2048x2048) ![0, 0, 0] S1x2048x2048.size inb_S2x2048x2048_S1x2048x2048_0_0_0,
          k0_pay9 (xs0 X) (xs0 X) (ns0 N) (ns0 N)⟩] := rfl

/-- From the two input blocks, the output block and the scratch at anything, the body runs to its return; the inputs stay
    and the output block holds the picks. -/
theorem kernelRun (c : Dev nD) (i : grid0.Coords) (arg1 : Memref sig .tc .vmem S2x131x2048 .f32) (harg1 : arg1.IsWhole)
    (arg2 : Memref sig .tc .vmem S2x1x2048 .f32) (harg2 : arg2.IsWhole) (arg3 : Memref sig .tc .vmem S2x512x1 .i32) (harg3 : arg3.IsWhole)
    (arg4 : Memref sig .tc .vmem S2x2048x2048 .f32) (harg4 : arg4.IsWhole)
    (X : Vec Ideal S2x131x2048 .f32) (N : Vec Ideal S2x1x2048 .f32) (K : PUnit → sProp 𝕄) :
    iprop(owns (c : Thread nD τ) arg1 fullShare X ∗ owns (c : Thread nD τ) arg2 fullShare N
        ∗ (∃ d, owns (c : Thread nD τ) arg3 fullShare d) ∗ (∃ d, owns (c : Thread nD τ) arg4 fullShare d)
        ∗ (iprop(owns (c : Thread nD τ) arg1 fullShare X ∗ owns (c : Thread nD τ) arg2 fullShare N
              ∗ owns (c : Thread nD τ) arg3 fullShare (picks (F := Ideal) (dist X N)) ∗ (∃ d, owns (c : Thread nD τ) arg4 fullShare d)) -∗ K ⟨⟩))
      ⊢ wp frame (wpE (defs₀ (F := Ideal)) Variants.none c none) Set.univ
          (cc0__fps_kernel i arg1 harg1 arg2 harg2 arg3 harg3 arg4 harg4) K := by
  simp only [cc0__fps_kernel_eq_skeleton]; unfold cc0__fps_kernel_skel
  unfold owns
  iintro ⟨⟨%f1, %hf1, H1⟩, ⟨%f2, %hf2, H2⟩, ⟨%d3, %f3, -, H3⟩, ⟨%d4, %f4, -, H4⟩, Hk⟩
  subst hf1 hf2
  have h0 : Recorded (F := Ideal) (arg4.view.read (Elt Ideal) (arg4.view.writes (Elt Ideal) arg4.view.junk
      [⟨Rect.unit (s := S2x2048x2048) ![1, 0, 0] S1x2048x2048.size inb_S2x2048x2048_S1x2048x2048_1_0_0,
          k0_pay1 (k0_pay10 (xs1 (arg1.view.read (Elt Ideal) f1)) (xs1 (arg1.view.read (Elt Ideal) f1)))
            (k0_pay11 (ns1 (arg2.view.read (Elt Ideal) f2))) (ns1 (arg2.view.read (Elt Ideal) f2))⟩,
       ⟨Rect.unit (s := S2x2048x2048) ![0, 0, 0] S1x2048x2048.size inb_S2x2048x2048_S1x2048x2048_0_0_0,
          k0_pay9 (xs0 (arg1.view.read (Elt Ideal) f1)) (xs0 (arg1.view.read (Elt Ideal) f1))
            (ns0 (arg2.view.read (Elt Ideal) f2)) (ns0 (arg2.view.read (Elt Ideal) f2))⟩])) 0 (arg3.view.read (Elt Ideal) f3) :=
    fun y hy => absurd hy (Nat.not_lt_zero _)
  sl_exec
  have hD : arg4.view.read (Elt Ideal) (arg4.view.writes (Elt Ideal) arg4.view.junk
      (slabs (arg1.view.read (Elt Ideal) f1) (arg2.view.read (Elt Ideal) f2)))
        = dist (arg1.view.read (Elt Ideal) f1) (arg2.view.read (Elt Ideal) f2) :=
    View.read_writes_eq_canon _ _ _ (slabs_cover _ _)
  rw [slabs_eq] at hD
  have hP := eq_picks (F := Ideal) _ _ (hD ▸ hL2)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; exact hP
  iexists _, _; isplitr; swap; · iexact H4
  ipureintro; rfl

end Cert.VersionIdeal.Hand

end
-- ==== Proof.VersionRun.lean ====
/-
  The launch of the version as it stands, over the extended reals: the pipeline over the four blocks, and the whole program.
  Its output array holds, block by block, the picks on the distance matrices of the block's two batches.
-/
module

public import proofs.«01_k».proof.Proof.VersionBody
public import Idealize.ShloMosaic.Adequacy
public import Idealize.ShloMosaic.Init

@[expose] public section

set_option maxRecDepth 16384

noncomputable section

namespace Cert.VersionIdeal.Hand

open Cert.VersionIdeal Cert.VersionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Hand (dist picks)

local notation "𝕄" => MT nD τ sig Unit (Elt Ideal) ℕ (UR sig nD τ) ℕ

variable (m : (ℓ : Loc nD τ sig) → Buf (Elt Ideal) ℓ) (ρ : Dev nD → PrngReg)

/-! ## The proof data and the body's obligation -/

/-- What the body leaves in the output's block at point `t`: the picks on the distances of the blocks it was handed. -/
def outBlk (c : Dev nD) (t : Fin cfg0.N) : Vec Ideal S2x512x1 .i32 := picks (F := Ideal) (dist (iblk m c 0 t) (iblk m c 1 t))

/-- The proof data on core `c`: the arrays as the region finds them; the two inputs' blocks left in place, the output's
    block at the picks; the scratch at anything between points; full shares; nothing owed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = outBlk m c t := by dsimp only [dats]

/-- What the body finds in the two inputs' staging buffers: their blocks. -/
theorem before_w0 (c : Dev nD) (t : Fin cfg0.N) (d) : (dats m 0 c).before 0 t d = iblk m c 0 t :=
  before0_0_of m (dats m 0 c) (A_eq m c 0) (after_w0 m c) t d
theorem before_w1 (c : Dev nD) (t : Fin cfg0.N) (d) : (dats m 0 c).before 1 t d = iblk m c 1 t :=
  before0_1_of m (dats m 0 c) (A_eq m c 1) (after_w1 m c) t d

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The scratch at any contents, spelled as what the body is handed. -/
theorem scratch_eq (c : Dev nD) :
    (Pipeline.ΦA spec0 c : sProp 𝕄)
      = iprop((∃ d, owns (c : Thread nD τ) (Memref.whole cc0_scratch0 : Memref sig .tc .vmem S2x2048x2048 .f32) fullShare d) ∗ (∃ r, prngReg c r)) := by
  unfold Pipeline.ΦA
  rw [scopedRest0_eq]; simp only [owns_whole]; try rfl

set_option backward.isDefEq.respectTransparency.types false in
/-- The body's obligation at every point. -/
theorem body_obligation (c : Dev nD) : BodyObligation (dats m 0 c) (defs₀ (F := Ideal)) Variants.none () Set.univ := fun t => by
  rw [bigSep_W0, bigSep_W0, defs₀_row]
  dsimp only
  simp only [before_w0, before_w1, after_w0, after_w1, after_w2]
  rw [show (dats m 0 c).Φ t.castSucc = Pipeline.ΦA spec0 c from rfl, show (dats m 0 c).Φ t.succ = Pipeline.ΦA spec0 c from rfl, scratch_eq]
  rw [show (dats m 0 c).owesAt () t.succ = (dats m 0 c).owesAt () t.castSucc from rfl]
  iintro ⟨⟨HS, Hg⟩, HO, ⟨%d0, H0⟩, ⟨%d1, H1⟩, ⟨%d2, H2⟩⟩
  iapply (kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (Memref.whole cc0_scratch0) (Memref.isWhole_whole _) (iblk m c 0 t) (iblk m c 1 t) _)
  isplitl [H0]; · iexact H0
  isplitl [H1]; · iexact H1
  isplitl [H2]; · iexists _; iexact H2
  isplitl [HS]; · iexact HS
  iintro ⟨H0, H1, H2, HS⟩
  isplitl [HS Hg]
  · isplitl [HS]; · iexact HS
    iexact Hg
  isplitl [HO]; · iexact HO
  isplitl [H0]; · iexact H0
  isplitl [H1]; · iexact H1
  iexact H2

/-! ## The launch -/

set_option backward.isDefEq.respectTransparency.types false in
/-- From any memory with zero counters, every weakly fair execution terminates; every final state has the pipeline's arrays
    at the proof data's, every other unscoped buffer as the lines after the region leave it, and every counter at zero. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around (p := (0 : Fin 1)) (kit := launch0) (cfgs := cfgs) (dats := dats m) (defs₀ := defs₀) (𝒱₀ := Variants.none) (m := m) (g := ρ) (main := main)
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)
    (Q' := fun r => Pipeline.FramePost cfgs (dats m) 0 (Pipeline.afterTail₀ cfgs (dats m) 0 (V0 m) [hostOps1]) r ∧ r.2.sem = fun _ => 0) (hQ' := fun _ h => h)

/-- The arguments end as launched and every counter at zero. -/
theorem frame :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c)⟩, h.2⟩)
    (run_main m ρ)

end Cert.VersionIdeal.Hand

end
-- ==== Proof.VersionValue.lean ====
/-
  The result of the version as it stands, over the extended reals: the array it ends with is the clipped kernel's, so where
  every step has one farthest point it holds the reference's points.
-/
module

public import proofs.«01_k».proof.Proof.VersionRun
public import proofs.«01_k».proof.Proof.KernelValue

@[expose] public section

set_option maxRecDepth 100000

noncomputable section

namespace Cert.VersionIdeal.Hand

open Cert.VersionIdeal Cert.VersionIdeal.Gen
open Idealize.ShloMosaic hiding ix1 ix2 ix3
open Idealize.ShloMosaic.TcCoe Idealize.ShloMosaic.Tactic Idealize.ShloMosaic.ValueIdx
open Idealize.SL.Sem
open Cert.KernelIdeal.Hand (Single pts)
open Cert.Sampling (dists stateAt)

variable (m : (ℓ : Loc nD τ sig) → Buf (Elt Ideal) ℓ)

/-- From the same memory, the result after the last line is the one the clipped kernel's proof data give: the lines around the
    region and its windows are the same, and so are the blocks the two bodies leave. -/
theorem result_same (c : Dev nD) : Pipeline.afterTail₀ cfgs (dats m) 0 (V0 m) [hostOps1] c main_v8
    = Pipeline.afterTail₀ Cert.KernelIdeal.cfgs (Cert.KernelIdeal.Hand.dats (F := Ideal) m) 0 (Cert.KernelIdeal.Gen.V0 m)
        [Cert.KernelIdeal.Gen.hostOps1] c Cert.KernelIdeal.main_v8 := rfl

/-- The version's runs end with the points taken on the reference's distances, the arguments as launched. -/
theorem run_value (ρ : Dev nD → PrngReg) (h : ∀ c, Single m c) :
    θ_run defs (onTc (τ := τ) (main (F := Ideal))) ⟨m, fun _ => 0, ρ⟩ (fun r => ∀ c : Dev nD,
      r.2.mem ((c.tc : Thread nD τ).loc main_v8)
        = (fun j => (stateAt (dists (F := Ideal) (pts m c)) (j 1).val).2.1 (ix1 (j 0)) : IVec S8x512 32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c =>
      ⟨((hr.1 c).2 main_v8 (Pipeline.mem_restRefs_of main_v8 (by decide) (by decide))).trans
          ((result_same m c).trans (Cert.KernelIdeal.Hand.result_eq m c (h c))),
       ((hr.1 c).2 main_arg0 (Pipeline.mem_restRefs_of main_arg0 (by decide) (by decide))).trans (W_main_arg0 m (dats m) c),
       ((hr.1 c).2 main_arg1 (Pipeline.mem_restRefs_of main_arg1 (by decide) (by decide))).trans (W_main_arg1 m (dats m) c)⟩)
    (run_main m ρ)

end Cert.VersionIdeal.Hand

end
-- ==== Proof.RefValue.lean ====
/-
  What the reference computes, at any value instance: before trip `k` its loop carries the distances, the state before step
  `k`, and the points taken so far; its result holds, for each batch, the 512 points in order.
-/
module

public import proofs.«01_k».proof.Proof.ReferenceRun
public import proofs.«01_k».proof.Proof.Steps
public import Idealize.ShloMosaic.Lib.ValueIdxCore
public import Idealize.ShloMosaic.Lib.Pipeline.Value

@[expose] public section

set_option maxRecDepth 100000

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo
open Idealize.ShloMosaic.ValueIdx
open Idealize.SL.Sem
open Cert.Sampling

variable {F : FTy → Type} [FloatOps F]

/-! ## The stretches of the body, one buffer at a time -/

variable (V : Valuation τ sig (Elt F))

/-- The points taken last, as start indices. -/
theorem bodyA_v21 : after bodyA V (Proc.devRef .tc main_while0b_v21)
    = (broadcastInDim S8x1x1 ![0] bcast_S8_S8x1x1_0 (V (Proc.devRef .tc main_v19_3)) : IVec S8x1x1 32) := by
  after_results

/-- The rows at the start indices. -/
theorem bodyB_v22 : after bodyB V (Proc.devRef .tc main_while0b_v22)
    = (Cert.Pre_no_tie.fn_take_along_axis (F := F) (V (Proc.devRef .tc main_v19_0)) (V (Proc.devRef .tc main_while0b_v21)) :
        FVec F S8x1x2048 .f32) := by
  after_results
  rfl

/-- The running minimum. -/
theorem bodyC_v24 : after bodyC V (Proc.devRef .tc main_while0b_v24)
    = (minimumf (F := F) (V (Proc.devRef .tc main_v19_2)) (shapeCast S8x2048 (V (Proc.devRef .tc main_while0b_v22)) shapeCasts_S8x1x2048_S8x2048) :
        FVec F S8x2048 .f32) := by
  after_results
  rfl

/-- Its argmax. -/
theorem bodyD_v25 : after bodyD V (Proc.devRef .tc main_while0b_v25)
    = (Cert.Pre_no_tie.fn_argmax (F := F) (V (Proc.devRef .tc main_while0b_v24)) : IVec S8 32) := by
  after_results
  rfl

/-- A signed reading of a small word. -/
theorem toInt_ofNat_small (k : ℕ) (hk : k < 2 ^ 31) : (BitVec.ofNat 32 k).toInt = (k : ℤ) := by
  rw [BitVec.toInt_eq_toNat_of_lt (by rw [BitVec.toNat_ofNat]; omega), BitVec.toNat_ofNat]
  omega

/-- An update of one row, the start given by two words. -/
theorem update_row (x : IVec S512x8 32) (u : IVec S1x8 32) (i : Fin 2 → IVec S_ 32) (k : ℕ) (hk : k < 512)
    (h0 : i 0 (Shape.Idx.first h_S_) = BitVec.ofNat 32 k) (h1 : i 1 (Shape.Idx.first h_S_) = 0#32) (a : Fin 512) (b : Fin 8) :
    Host.dynamicUpdateSlice x u (fun d => (i d (Shape.Idx.first h_S_)).toInt) updateFits_S512x8_S1x8 (ix2 a b)
      = if a.val = k then u (ix2 0 b) else x (ix2 a b) := by
  refine (congrFun (Host.dynamicUpdateSlice_eq_updateSlice x u _ updateFits_S512x8_S1x8 (![k, 0] : Fin 2 → ℕ) (fun d => by
    fin_cases d
    · show (min (max ((i 0 (Shape.Idx.first h_S_)).toInt) 0) ((511 : ℕ) : ℤ)).toNat = k
      rw [h0, toInt_ofNat_small k (by omega)]
      omega
    · show (min (max ((i 1 (Shape.Idx.first h_S_)).toInt) 0) ((0 : ℕ) : ℤ)).toNat = 0
      rw [h1]
      decide) ⟨rfl, fun d => by
        fin_cases d
        · show k + 1 ≤ 512
          omega
        · show 0 + 8 ≤ 8
          omega⟩) (ix2 a b)).trans ?_
  unfold updateSlice
  by_cases hj : a.val = k
  · rw [if_pos hj, dif_pos (fun d => by
      fin_cases d
      · show k ≤ a.val ∧ a.val < k + 1
        omega
      · show 0 ≤ b.val ∧ b.val < 0 + 8
        omega)]
    refine congrArg u (Shape.idx_ext₂ ?_ ?_)
    · show a.val - k = 0
      omega
    · show b.val - 0 = b.val
      omega
  · rw [if_neg hj, dif_neg (fun h => hj (by
      have h' : k ≤ a.val ∧ a.val < k + 1 := h (0 : Fin 2)
      omega))]

/-- The output with row `k` replaced by the points taken last, the counter at `k`. -/
theorem bodyE_v26 (k : ℕ) (hk : k < 512) (hV : V (Proc.devRef .tc main_v19_1) = (fun _ => BitVec.ofNat 32 k : IVec S_ 32))
    (a : Fin 512) (b : Fin 8) :
    (after bodyE V (Proc.devRef .tc main_while0b_v26) : IVec S512x8 32) (ix2 a b)
      = if a.val = k then (V (Proc.devRef .tc main_v19_3) : IVec S8 32) (ix1 b) else (V (Proc.devRef .tc main_v19_4) : IVec S512x8 32) (ix2 a b) := by
  after_results
  refine (update_row _ _ _ k hk ?_ ?_ a b).trans ?_
  · exact congrFun hV _
  · rfl
  · have hb : (broadcastInDim S1x8 ![1] bcast_S8_S1x8_1 (V (Proc.devRef .tc main_v19_3) : IVec S8 32) : IVec S1x8 32) (ix2 0 b)
        = (V (Proc.devRef .tc main_v19_3) : IVec S8 32) (ix1 b) :=
      broadcastInDim_apply _ _ _ _ _ (by intro d; fin_cases d; rfl)
    exact congrArg (fun w => if a.val = k then w else (V (Proc.devRef .tc main_v19_4) : IVec S512x8 32) (ix2 a b)) hb

/-- What the last stretch copies into the carried buffers. -/
theorem bodyF_copies :
    after bodyF V (Proc.devRef .tc main_v19_2) = V (Proc.devRef .tc main_while0b_v24)
    ∧ after bodyF V (Proc.devRef .tc main_v19_3) = V (Proc.devRef .tc main_while0b_v25)
    ∧ after bodyF V (Proc.devRef .tc main_v19_4) = V (Proc.devRef .tc main_while0b_v26) := by
  refine ⟨?_, ?_, ?_⟩ <;> after_results <;> rfl

/-! ## The loop -/

/-- The operations before the loop leave the distances and the state before the first step. -/
theorem pre_carried :
    after pre V (Proc.devRef .tc main_v19_0)
      = (dists (points (V (Proc.devRef .tc main_arg0)) (V (Proc.devRef .tc main_arg1))) : Dists F)
    ∧ after pre V (Proc.devRef .tc main_v19_2) = (start (F := F)).1
    ∧ after pre V (Proc.devRef .tc main_v19_3) = (start (F := F)).2.1 := by
  refine ⟨?_, ?_, ?_⟩ <;> after_results <;> rfl

variable (m : (ℓ : Loc nD τ sig) → Buf (Elt F) ℓ) (c : Dev nD)

/-- The distances of the two arguments. -/
def refDists : Dists F := dists (points (m ((c.tc : Thread nD τ).loc main_arg0)) (m ((c.tc : Thread nD τ).loc main_arg1)))

/-- Before trip `k` the loop carries the distances, the state before step `k`, and the first `k` points taken. -/
theorem atK_state : ∀ k ≤ 512,
    atK m k c (Proc.devRef .tc main_v19_0) = refDists m c
    ∧ atK m k c (Proc.devRef .tc main_v19_2) = (stateAt (refDists m c) k).1
    ∧ atK m k c (Proc.devRef .tc main_v19_3) = (stateAt (refDists m c) k).2.1
    ∧ ∀ (a : Fin 512) (b : Fin 8), a.val < k →
        (atK m k c (Proc.devRef .tc main_v19_4) : IVec S512x8 32) (ix2 a b) = (stateAt (refDists m c) a.val).2.1 (ix1 b)
  | 0, _ => by
    have h := pre_carried (launchContents m c)
    exact ⟨h.1, h.2.1, h.2.2, fun a b hj => absurd hj (Nat.not_lt_zero _)⟩
  | k + 1, hk => by
    obtain ⟨h0, h2, h3, h4⟩ := atK_state k (by omega)
    have hc := atK_ctr m c k
    have hiv : (fun _ => Scf.iv 0#32 1#32 k : IVec S_ 32) = fun _ => BitVec.ofNat 32 k := by
      funext _; unfold Scf.iv; simp
    replace hc := hc.trans hiv
    have e : atK m (k + 1) c = after bodyF (after bodyE (after bodyD (after bodyC (after bodyB (after bodyA (after condOps (atK m k c))))))) := rfl
    rw [e]
    generalize hVc : after condOps (atK m k c) = Vc
    have c0 : Vc (Proc.devRef .tc main_v19_0) = refDists m c := by
      rw [← hVc, after_of_writes_sub _ _ condOps_writes (by decide +kernel), h0]
    have c1 : Vc (Proc.devRef .tc main_v19_1) = (fun _ => BitVec.ofNat 32 k : IVec S_ 32) := by
      rw [← hVc, after_of_writes_sub _ _ condOps_writes (by decide +kernel), hc]
    have c2 : Vc (Proc.devRef .tc main_v19_2) = (stateAt (refDists m c) k).1 := by
      rw [← hVc, after_of_writes_sub _ _ condOps_writes (by decide +kernel), h2]
    have c3 : Vc (Proc.devRef .tc main_v19_3) = (stateAt (refDists m c) k).2.1 := by
      rw [← hVc, after_of_writes_sub _ _ condOps_writes (by decide +kernel), h3]
    have c4 : Vc (Proc.devRef .tc main_v19_4) = atK m k c (Proc.devRef .tc main_v19_4) := by
      rw [← hVc, after_of_writes_sub _ _ condOps_writes (by decide +kernel)]
    have d24 : after bodyC (after bodyB (after bodyA Vc)) (Proc.devRef .tc main_while0b_v24) = (stateAt (refDists m c) (k + 1)).1 := by
      rw [bodyC_v24, bodyB_v22, bodyA_v21, after_of_writes_sub _ _ bodyB_writes (by decide +kernel), after_of_writes_sub _ _ bodyA_writes (by decide +kernel),
        after_of_writes_sub _ _ bodyA_writes (by decide +kernel), c0, c2, c3, stateAt_succ]
      exact (step_dists _ _).symm
    have d25 : after bodyD (after bodyC (after bodyB (after bodyA Vc))) (Proc.devRef .tc main_while0b_v25) = (stateAt (refDists m c) (k + 1)).2.1 := by
      rw [bodyD_v25, d24, stateAt_succ]
      exact (step_point _ _).symm
    have keep : ∀ b : Ref sig .tc, b ∉ bodyA_W → b ∉ bodyB_W → b ∉ bodyC_W → b ∉ bodyD_W →
        after bodyD (after bodyC (after bodyB (after bodyA Vc))) (Proc.devRef .tc b) = Vc (Proc.devRef .tc b) := fun b hA hB hC hD => by
      rw [after_of_writes_sub _ _ bodyD_writes hD, after_of_writes_sub _ _ bodyC_writes hC, after_of_writes_sub _ _ bodyB_writes hB,
        after_of_writes_sub _ _ bodyA_writes hA]
    refine ⟨?_, ?_, ?_, ?_⟩
    · rw [after_of_writes_sub _ _ bodyF_writes (by decide +kernel), after_of_writes_sub _ _ bodyE_writes (by decide +kernel),
        keep _ (by decide +kernel) (by decide +kernel) (by decide +kernel) (by decide +kernel), c0]
    · rw [(bodyF_copies _).1, after_of_writes_sub _ _ bodyE_writes (by decide +kernel), after_of_writes_sub _ _ bodyD_writes (by decide +kernel), d24]
    · rw [(bodyF_copies _).2.1, after_of_writes_sub _ _ bodyE_writes (by decide +kernel), d25]
    · intro a b ha
      refine (congrFun (bodyF_copies _).2.2 _).trans ((bodyE_v26 _ k (by omega)
        ((keep _ (by decide +kernel) (by decide +kernel) (by decide +kernel) (by decide +kernel)).trans c1) a b).trans ?_)
      rw [keep _ (by decide +kernel) (by decide +kernel) (by decide +kernel) (by decide +kernel),
        keep _ (by decide +kernel) (by decide +kernel) (by decide +kernel) (by decide +kernel), c3, c4]
      by_cases hak : a.val = k
      · rw [if_pos hak, hak]
      · rw [if_neg hak]
        exact h4 a b (by omega)

/-- The reference's result at (batch, step) is the point taken there before that step. -/
theorem final_v20 (j : S8x512.Idx) :
    (finalContents condOps preI bodyI postI 512 m c (Proc.devRef .tc main_v20) : IVec S8x512 32) j
      = (stateAt (refDists m c) (j 1).val).2.1 (ix1 (j 0)) := by
  have h : finalContents condOps preI bodyI postI 512 m c (Proc.devRef .tc main_v20)
      = (transpose S8x512 [1, 0] (atK m 512 c (Proc.devRef .tc main_v19_4)) transposes_S512x8_S8x512_1_0 : IVec S8x512 32) := by
    show after postA (after condOps (atK m 512 c)) (Proc.devRef .tc main_v20) = _
    generalize hVc : after condOps (atK m 512 c) = Vc
    after_results
    rw [← hVc, after_of_writes_sub _ _ condOps_writes (by decide +kernel)]
  refine (congrFun h j).trans ((transpose_apply [1, 0] _ transposes_S512x8_S8x512_1_0 j (ix2 (j 1) (j 0)) (by intro a; fin_cases a <;> rfl)).trans ?_)
  exact (atK_state m c 512 le_rfl).2.2.2 (j 1) (j 0) (idx2_lt1 j)

/-- The reference terminates with those points and leaves its arguments as they were. -/
theorem run_value (ρ : Dev nD → PrngReg) : θ_run (defs (F := F)) (onTc (τ := τ) (main (F := F))) ⟨m, fun _ => 0, ρ⟩
    (fun r => ∀ c : Dev nD,
      r.2.mem ((c.tc : Thread nD τ).loc main_v20) = (fun j => (stateAt (refDists m c) (j 1).val).2.1 (ix1 (j 0)) : IVec S8x512 32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c main_v20 (by decide)).trans (funext fun j => final_v20 m c j),
      (h c main_arg0 (by decide)).trans (final_of_unwritten m c _ (by decide +kernel) (by decide +kernel) (by decide +kernel) (by decide +kernel)
        (by decide +kernel) (by decide +kernel) (by decide +kernel) (by decide +kernel) (by decide +kernel)),
      (h c main_arg1 (by decide)).trans (final_of_unwritten m c _ (by decide +kernel) (by decide +kernel) (by decide +kernel) (by decide +kernel)
        (by decide +kernel) (by decide +kernel) (by decide +kernel) (by decide +kernel) (by decide +kernel))⟩) (run_fold m ρ)

end Cert.ReferenceIdeal.Hand

end
-- ==== Proof.Equation.lean ====
/-
  The equations: the version as it stands and the reference, and the clipped kernel and the reference, over the extended reals
  and from equal arguments, end with equal results where every step has one farthest point.
-/
module

public import proofs.«01_k».proof.Defs
public import proofs.«01_k».proof.Proof.KernelValue
public import proofs.«01_k».proof.Proof.VersionValue
public import proofs.«01_k».proof.Proof.RefValue

@[expose] public section

set_option maxRecDepth 100000

noncomputable section

namespace Cert.Equation

open Idealize.ShloMosaic Idealize.SL.Sem

/-- The precondition says that every step has one farthest point. -/
theorem single_of_pre (m : (ℓ : Loc Cert.KernelIdeal.nD Cert.KernelIdeal.τ Cert.KernelIdeal.sig) → Buf (Elt Ideal) ℓ)
    (h : Cert.Pre_KernelIdeal (hPre_no_tie := Cert.Pre_no_tie.Gen.facts) m) (c : Dev Cert.KernelIdeal.nD) : Cert.KernelIdeal.Hand.Single m c :=
  (Cert.Sampling.fn_eq (F := Ideal) _ _).symm.trans (h c)

/-- The reference's distances from equal arguments are those of the kernel's points. -/
theorem refDists_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
          = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
          = m ((c.tc : Thread Cert.KernelIdeal.nD Cert.KernelIdeal.τ).loc Cert.KernelIdeal.main_arg1)) :
    Cert.ReferenceIdeal.Hand.refDists m' c = Cert.Sampling.dists (F := Ideal) (Cert.KernelIdeal.Hand.pts m c) :=
  congrArg (Cert.Sampling.dists (F := Ideal)) (congrArg₂ (Cert.Sampling.points (F := Ideal)) h.1 h.2)

/-- From equal arguments that satisfy the precondition, the runs of the version as it stands and of the reference end with the
    same points. -/
theorem algebraic_version : Cert.algebraic_VersionIdeal_ReferenceIdeal (hVersionIdeal := Cert.VersionIdeal.Gen.facts)
    (hReferenceIdeal := Cert.ReferenceIdeal.Gen.facts) (hPre_no_tie := Cert.Pre_no_tie.Gen.facts) := by
  intro m g m' g' hpre hargs
  refine ⟨fun c => _, Cert.VersionIdeal.Hand.run_value m g (single_of_pre m hpre), ?_⟩
  refine (θ_run _ _ _).mono (fun r h c => ⟨(h c).1.trans ?_, (h c).2⟩) (Cert.ReferenceIdeal.Hand.run_value m' g')
  rw [refDists_eq m m' c (hargs c)]

/-- From equal arguments that satisfy the precondition, the runs of the clipped kernel and of the reference end with the same
    points. -/
theorem algebraic : Cert.algebraic_KernelIdeal_ReferenceIdeal (hKernelIdeal := Cert.KernelIdeal.Gen.facts)
    (hReferenceIdeal := Cert.ReferenceIdeal.Gen.facts) (hPre_no_tie := Cert.Pre_no_tie.Gen.facts) := by
  intro m g m' g' hpre hargs
  refine ⟨fun c => _, Cert.KernelIdeal.Hand.run_value m g (single_of_pre m hpre), ?_⟩
  refine (θ_run _ _ _).mono (fun r h c => ⟨(h c).1.trans ?_, (h c).2⟩) (Cert.ReferenceIdeal.Hand.run_value m' g')
  rw [refDists_eq m m' c (hargs c)]

end Cert.Equation

end
-- ==== Proof.lean ====
/-
  The proof of the certificate's claim, from the modules under Proof/.
-/
module

public import proofs.«01_k».proof.Defs
public import proofs.«01_k».proof.Proof.KernelRun
public import proofs.«01_k».proof.Proof.KernelIdealRun
public import proofs.«01_k».proof.Proof.ReferenceRun
public import proofs.«01_k».proof.Proof.Equation
public import proofs.«01_k».proof.Proof.VersionRun
public import proofs.«01_k».proof.Proof.Gen.Pre_no_tie

@[expose] public section

noncomputable section

namespace Cert.Proof

open Idealize.ShloMosaic Idealize.SL.Sem

/-- The certificate's claim. -/
theorem claim : Cert.Claim := ⟨Cert.VersionIdeal.Gen.facts, Cert.ReferenceIdeal.Gen.facts, Cert.Kernel.Gen.facts, Cert.KernelIdeal.Gen.facts, Cert.Pre_no_tie.Gen.facts,
  fun m g _ => Cert.VersionIdeal.Hand.frame m g,
  fun m g _ => Cert.ReferenceIdeal.Hand.frame m g,
  fun m g _ => Cert.ReferenceIdeal.Hand.frame m g,
  fun m g _ => Cert.Kernel.Hand.frame m g,
  fun m g _ => Cert.Kernel.Hand.frame m g,
  fun m g _ => Cert.KernelIdeal.Hand.frame m g,
  Cert.Equation.algebraic_version,
  trivial,
  Cert.Equation.algebraic⟩

end Cert.Proof

end
